-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_LayerNorm (m : (ℓ : Loc Cert.LayerNorm.nD Cert.LayerNorm.τ Cert.LayerNorm.sig) → Buf (Elt Bits) ℓ) : Prop :=
  True

def Pre_LayerNormIdeal (m : (ℓ : Loc Cert.LayerNormIdeal.nD Cert.LayerNormIdeal.τ Cert.LayerNormIdeal.sig) → Buf (Elt Ideal) ℓ) : Prop :=
  True

def Pre_LayerNormRefIdeal (m : (ℓ : Loc Cert.LayerNormRefIdeal.nD Cert.LayerNormRefIdeal.τ Cert.LayerNormRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProjA (m : (ℓ : Loc Cert.InProjA.nD Cert.InProjA.τ Cert.InProjA.sig) → Buf (Elt Bits) ℓ) : Prop :=
  True

def Pre_InProjAIdeal (m : (ℓ : Loc Cert.InProjAIdeal.nD Cert.InProjAIdeal.τ Cert.InProjAIdeal.sig) → Buf (Elt Ideal) ℓ) : Prop :=
  True

def Pre_InProjARefIdeal (m : (ℓ : Loc Cert.InProjARefIdeal.nD Cert.InProjARefIdeal.τ Cert.InProjARefIdeal.sig) → Buf (Elt Ideal) ℓ) : Prop :=
  True

def Pre_InProjB (m : (ℓ : Loc Cert.InProjB.nD Cert.InProjB.τ Cert.InProjB.sig) → Buf (Elt Bits) ℓ) : Prop :=
  True

def Pre_InProjBIdeal (m : (ℓ : Loc Cert.InProjBIdeal.nD Cert.InProjBIdeal.τ Cert.InProjBIdeal.sig) → Buf (Elt Ideal) ℓ) : Prop :=
  True

def Pre_InProjBRefIdeal (m : (ℓ : Loc Cert.InProjBRefIdeal.nD Cert.InProjBRefIdeal.τ Cert.InProjBRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_LayerNorm [hLayerNorm : Cert.LayerNorm.Facts] : Prop :=
  ∀ (m : (ℓ : Loc Cert.LayerNorm.nD Cert.LayerNorm.τ Cert.LayerNorm.sig) → Buf (Elt Bits) ℓ) (g : Dev Cert.LayerNorm.nD → PrngReg), Pre_LayerNorm m →
    θ_run (Cert.LayerNorm.defs (F := Bits)) (onTc (τ := Cert.LayerNorm.τ) (Cert.LayerNorm.main (F := Bits))) ⟨m, fun _ => 0, g⟩ (fun r => (∀ c : Dev Cert.LayerNorm.nD,
      r.2.mem ((c.tc : Thread Cert.LayerNorm.nD Cert.LayerNorm.τ).loc Cert.LayerNorm.main_arg0) = m ((c.tc : Thread Cert.LayerNorm.nD Cert.LayerNorm.τ).loc Cert.LayerNorm.main_arg0)
      ∧ r.2.mem ((c.tc : Thread Cert.LayerNorm.nD Cert.LayerNorm.τ).loc Cert.LayerNorm.main_arg1) = m ((c.tc : Thread Cert.LayerNorm.nD Cert.LayerNorm.τ).loc Cert.LayerNorm.main_arg1)
      ∧ r.2.mem ((c.tc : Thread Cert.LayerNorm.nD Cert.LayerNorm.τ).loc Cert.LayerNorm.main_arg2) = m ((c.tc : Thread Cert.LayerNorm.nD Cert.LayerNorm.τ).loc Cert.LayerNorm.main_arg2))
      ∧ r.2.sem = fun _ => 0)

def quiescent_LayerNormIdeal [hLayerNormIdeal : Cert.LayerNormIdeal.Facts] : Prop :=
  ∀ (m : (ℓ : Loc Cert.LayerNormIdeal.nD Cert.LayerNormIdeal.τ Cert.LayerNormIdeal.sig) → Buf (Elt Ideal) ℓ) (g : Dev Cert.LayerNormIdeal.nD → PrngReg), Pre_LayerNormIdeal m →
    θ_run (Cert.LayerNormIdeal.defs (F := Ideal)) (onTc (τ := Cert.LayerNormIdeal.τ) (Cert.LayerNormIdeal.main (F := Ideal))) ⟨m, fun _ => 0, g⟩ (fun r => (∀ c : Dev Cert.LayerNormIdeal.nD,
      r.2.mem ((c.tc : Thread Cert.LayerNormIdeal.nD Cert.LayerNormIdeal.τ).loc Cert.LayerNormIdeal.main_arg0) = m ((c.tc : Thread Cert.LayerNormIdeal.nD Cert.LayerNormIdeal.τ).loc Cert.LayerNormIdeal.main_arg0)
      ∧ r.2.mem ((c.tc : Thread Cert.LayerNormIdeal.nD Cert.LayerNormIdeal.τ).loc Cert.LayerNormIdeal.main_arg1) = m ((c.tc : Thread Cert.LayerNormIdeal.nD Cert.LayerNormIdeal.τ).loc Cert.LayerNormIdeal.main_arg1)
      ∧ r.2.mem ((c.tc : Thread Cert.LayerNormIdeal.nD Cert.LayerNormIdeal.τ).loc Cert.LayerNormIdeal.main_arg2) = m ((c.tc : Thread Cert.LayerNormIdeal.nD Cert.LayerNormIdeal.τ).loc Cert.LayerNormIdeal.main_arg2))
      ∧ r.2.sem = fun _ => 0)

def quiescent_LayerNormRefIdeal [hLayerNormRefIdeal : Cert.LayerNormRefIdeal.Facts] : Prop :=
  ∀ (m : (ℓ : Loc Cert.LayerNormRefIdeal.nD Cert.LayerNormRefIdeal.τ Cert.LayerNormRefIdeal.sig) → Buf (Elt Ideal) ℓ) (g : Dev Cert.LayerNormRefIdeal.nD → PrngReg), Pre_LayerNormRefIdeal m →
    θ_run (Cert.LayerNormRefIdeal.defs (F := Ideal)) (onTc (τ := Cert.LayerNormRefIdeal.τ) (Cert.LayerNormRefIdeal.main (F := Ideal))) ⟨m, fun _ => 0, g⟩ (fun r => (∀ c : Dev Cert.LayerNormRefIdeal.nD,
      r.2.mem ((c.tc : Thread Cert.LayerNormRefIdeal.nD Cert.LayerNormRefIdeal.τ).loc Cert.LayerNormRefIdeal.main_arg0) = m ((c.tc : Thread Cert.LayerNormRefIdeal.nD Cert.LayerNormRefIdeal.τ).loc Cert.LayerNormRefIdeal.main_arg0)
      ∧ r.2.mem ((c.tc : Thread Cert.LayerNormRefIdeal.nD Cert.LayerNormRefIdeal.τ).loc Cert.LayerNormRefIdeal.main_arg1) = m ((c.tc : Thread Cert.LayerNormRefIdeal.nD Cert.LayerNormRefIdeal.τ).loc Cert.LayerNormRefIdeal.main_arg1)
      ∧ r.2.mem ((c.tc : Thread Cert.LayerNormRefIdeal.nD Cert.LayerNormRefIdeal.τ).loc Cert.LayerNormRefIdeal.main_arg2) = m ((c.tc : Thread Cert.LayerNormRefIdeal.nD Cert.LayerNormRefIdeal.τ).loc Cert.LayerNormRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_InProjA [hInProjA : Cert.InProjA.Facts] : Prop :=
  ∀ (m : (ℓ : Loc Cert.InProjA.nD Cert.InProjA.τ Cert.InProjA.sig) → Buf (Elt Bits) ℓ) (g : Dev Cert.InProjA.nD → PrngReg), Pre_InProjA m →
    θ_run (Cert.InProjA.defs (F := Bits)) (onTc (τ := Cert.InProjA.τ) (Cert.InProjA.main (F := Bits))) ⟨m, fun _ => 0, g⟩ (fun r => (∀ c : Dev Cert.InProjA.nD,
      r.2.mem ((c.tc : Thread Cert.InProjA.nD Cert.InProjA.τ).loc Cert.InProjA.main_arg0) = m ((c.tc : Thread Cert.InProjA.nD Cert.InProjA.τ).loc Cert.InProjA.main_arg0)
      ∧ r.2.mem ((c.tc : Thread Cert.InProjA.nD Cert.InProjA.τ).loc Cert.InProjA.main_arg1) = m ((c.tc : Thread Cert.InProjA.nD Cert.InProjA.τ).loc Cert.InProjA.main_arg1)
      ∧ r.2.mem ((c.tc : Thread Cert.InProjA.nD Cert.InProjA.τ).loc Cert.InProjA.main_arg2) = m ((c.tc : Thread Cert.InProjA.nD Cert.InProjA.τ).loc Cert.InProjA.main_arg2)
      ∧ r.2.mem ((c.tc : Thread Cert.InProjA.nD Cert.InProjA.τ).loc Cert.InProjA.main_arg3) = m ((c.tc : Thread Cert.InProjA.nD Cert.InProjA.τ).loc Cert.InProjA.main_arg3)
      ∧ r.2.mem ((c.tc : Thread Cert.InProjA.nD Cert.InProjA.τ).loc Cert.InProjA.main_arg4) = m ((c.tc : Thread Cert.InProjA.nD Cert.InProjA.τ).loc Cert.InProjA.main_arg4))
      ∧ r.2.sem = fun _ => 0)

def quiescent_InProjAIdeal [hInProjAIdeal : Cert.InProjAIdeal.Facts] : Prop :=
  ∀ (m : (ℓ : Loc Cert.InProjAIdeal.nD Cert.InProjAIdeal.τ Cert.InProjAIdeal.sig) → Buf (Elt Ideal) ℓ) (g : Dev Cert.InProjAIdeal.nD → PrngReg), Pre_InProjAIdeal m →
    θ_run (Cert.InProjAIdeal.defs (F := Ideal)) (onTc (τ := Cert.InProjAIdeal.τ) (Cert.InProjAIdeal.main (F := Ideal))) ⟨m, fun _ => 0, g⟩ (fun r => (∀ c : Dev Cert.InProjAIdeal.nD,
      r.2.mem ((c.tc : Thread Cert.InProjAIdeal.nD Cert.InProjAIdeal.τ).loc Cert.InProjAIdeal.main_arg0) = m ((c.tc : Thread Cert.InProjAIdeal.nD Cert.InProjAIdeal.τ).loc Cert.InProjAIdeal.main_arg0)
      ∧ r.2.mem ((c.tc : Thread Cert.InProjAIdeal.nD Cert.InProjAIdeal.τ).loc Cert.InProjAIdeal.main_arg1) = m ((c.tc : Thread Cert.InProjAIdeal.nD Cert.InProjAIdeal.τ).loc Cert.InProjAIdeal.main_arg1)
      ∧ r.2.mem ((c.tc : Thread Cert.InProjAIdeal.nD Cert.InProjAIdeal.τ).loc Cert.InProjAIdeal.main_arg2) = m ((c.tc : Thread Cert.InProjAIdeal.nD Cert.InProjAIdeal.τ).loc Cert.InProjAIdeal.main_arg2)
      ∧ r.2.mem ((c.tc : Thread Cert.InProjAIdeal.nD Cert.InProjAIdeal.τ).loc Cert.InProjAIdeal.main_arg3) = m ((c.tc : Thread Cert.InProjAIdeal.nD Cert.InProjAIdeal.τ).loc Cert.InProjAIdeal.main_arg3)
      ∧ r.2.mem ((c.tc : Thread Cert.InProjAIdeal.nD Cert.InProjAIdeal.τ).loc Cert.InProjAIdeal.main_arg4) = m ((c.tc : Thread Cert.InProjAIdeal.nD Cert.InProjAIdeal.τ).loc Cert.InProjAIdeal.main_arg4))
      ∧ r.2.sem = fun _ => 0)

def quiescent_InProjARefIdeal [hInProjARefIdeal : Cert.InProjARefIdeal.Facts] : Prop :=
  ∀ (m : (ℓ : Loc Cert.InProjARefIdeal.nD Cert.InProjARefIdeal.τ Cert.InProjARefIdeal.sig) → Buf (Elt Ideal) ℓ) (g : Dev Cert.InProjARefIdeal.nD → PrngReg), Pre_InProjARefIdeal m →
    θ_run (Cert.InProjARefIdeal.defs (F := Ideal)) (onTc (τ := Cert.InProjARefIdeal.τ) (Cert.InProjARefIdeal.main (F := Ideal))) ⟨m, fun _ => 0, g⟩ (fun r => (∀ c : Dev Cert.InProjARefIdeal.nD,
      r.2.mem ((c.tc : Thread Cert.InProjARefIdeal.nD Cert.InProjARefIdeal.τ).loc Cert.InProjARefIdeal.main_arg0) = m ((c.tc : Thread Cert.InProjARefIdeal.nD Cert.InProjARefIdeal.τ).loc Cert.InProjARefIdeal.main_arg0)
      ∧ r.2.mem ((c.tc : Thread Cert.InProjARefIdeal.nD Cert.InProjARefIdeal.τ).loc Cert.InProjARefIdeal.main_arg1) = m ((c.tc : Thread Cert.InProjARefIdeal.nD Cert.InProjARefIdeal.τ).loc Cert.InProjARefIdeal.main_arg1)
      ∧ r.2.mem ((c.tc : Thread Cert.InProjARefIdeal.nD Cert.InProjARefIdeal.τ).loc Cert.InProjARefIdeal.main_arg2) = m ((c.tc : Thread Cert.InProjARefIdeal.nD Cert.InProjARefIdeal.τ).loc Cert.InProjARefIdeal.main_arg2)
      ∧ r.2.mem ((c.tc : Thread Cert.InProjARefIdeal.nD Cert.InProjARefIdeal.τ).loc Cert.InProjARefIdeal.main_arg3) = m ((c.tc : Thread Cert.InProjARefIdeal.nD Cert.InProjARefIdeal.τ).loc Cert.InProjARefIdeal.main_arg3)
      ∧ r.2.mem ((c.tc : Thread Cert.InProjARefIdeal.nD Cert.InProjARefIdeal.τ).loc Cert.InProjARefIdeal.main_arg4) = m ((c.tc : Thread Cert.InProjARefIdeal.nD Cert.InProjARefIdeal.τ).loc Cert.InProjARefIdeal.main_arg4))
      ∧ r.2.sem = fun _ => 0)

def quiescent_InProjB [hInProjB : Cert.InProjB.Facts] : Prop :=
  ∀ (m : (ℓ : Loc Cert.InProjB.nD Cert.InProjB.τ Cert.InProjB.sig) → Buf (Elt Bits) ℓ) (g : Dev Cert.InProjB.nD → PrngReg), Pre_InProjB m →
    θ_run (Cert.InProjB.defs (F := Bits)) (onTc (τ := Cert.InProjB.τ) (Cert.InProjB.main (F := Bits))) ⟨m, fun _ => 0, g⟩ (fun r => (∀ c : Dev Cert.InProjB.nD,
      r.2.mem ((c.tc : Thread Cert.InProjB.nD Cert.InProjB.τ).loc Cert.InProjB.main_arg0) = m ((c.tc : Thread Cert.InProjB.nD Cert.InProjB.τ).loc Cert.InProjB.main_arg0)
      ∧ r.2.mem ((c.tc : Thread Cert.InProjB.nD Cert.InProjB.τ).loc Cert.InProjB.main_arg1) = m ((c.tc : Thread Cert.InProjB.nD Cert.InProjB.τ).loc Cert.InProjB.main_arg1))
      ∧ r.2.sem = fun _ => 0)

def quiescent_InProjBIdeal [hInProjBIdeal : Cert.InProjBIdeal.Facts] : Prop :=
  ∀ (m : (ℓ : Loc Cert.InProjBIdeal.nD Cert.InProjBIdeal.τ Cert.InProjBIdeal.sig) → Buf (Elt Ideal) ℓ) (g : Dev Cert.InProjBIdeal.nD → PrngReg), Pre_InProjBIdeal m →
    θ_run (Cert.InProjBIdeal.defs (F := Ideal)) (onTc (τ := Cert.InProjBIdeal.τ) (Cert.InProjBIdeal.main (F := Ideal))) ⟨m, fun _ => 0, g⟩ (fun r => (∀ c : Dev Cert.InProjBIdeal.nD,
      r.2.mem ((c.tc : Thread Cert.InProjBIdeal.nD Cert.InProjBIdeal.τ).loc Cert.InProjBIdeal.main_arg0) = m ((c.tc : Thread Cert.InProjBIdeal.nD Cert.InProjBIdeal.τ).loc Cert.InProjBIdeal.main_arg0)
      ∧ r.2.mem ((c.tc : Thread Cert.InProjBIdeal.nD Cert.InProjBIdeal.τ).loc Cert.InProjBIdeal.main_arg1) = m ((c.tc : Thread Cert.InProjBIdeal.nD Cert.InProjBIdeal.τ).loc Cert.InProjBIdeal.main_arg1))
      ∧ r.2.sem = fun _ => 0)

def quiescent_InProjBRefIdeal [hInProjBRefIdeal : Cert.InProjBRefIdeal.Facts] : Prop :=
  ∀ (m : (ℓ : Loc Cert.InProjBRefIdeal.nD Cert.InProjBRefIdeal.τ Cert.InProjBRefIdeal.sig) → Buf (Elt Ideal) ℓ) (g : Dev Cert.InProjBRefIdeal.nD → PrngReg), Pre_InProjBRefIdeal m →
    θ_run (Cert.InProjBRefIdeal.defs (F := Ideal)) (onTc (τ := Cert.InProjBRefIdeal.τ) (Cert.InProjBRefIdeal.main (F := Ideal))) ⟨m, fun _ => 0, g⟩ (fun r => (∀ c : Dev Cert.InProjBRefIdeal.nD,
      r.2.mem ((c.tc : Thread Cert.InProjBRefIdeal.nD Cert.InProjBRefIdeal.τ).loc Cert.InProjBRefIdeal.main_arg0) = m ((c.tc : Thread Cert.InProjBRefIdeal.nD Cert.InProjBRefIdeal.τ).loc Cert.InProjBRefIdeal.main_arg0)
      ∧ r.2.mem ((c.tc : Thread Cert.InProjBRefIdeal.nD Cert.InProjBRefIdeal.τ).loc Cert.InProjBRefIdeal.main_arg1) = m ((c.tc : Thread Cert.InProjBRefIdeal.nD Cert.InProjBRefIdeal.τ).loc Cert.InProjBRefIdeal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def preserves_LayerNorm_LayerNormIdeal : Prop :=
  True

def algebraic_LayerNormIdeal_LayerNormRefIdeal [hLayerNormIdeal : Cert.LayerNormIdeal.Facts] [hLayerNormRefIdeal : Cert.LayerNormRefIdeal.Facts] : Prop :=
  ∀ (m : (ℓ : Loc Cert.LayerNormIdeal.nD Cert.LayerNormIdeal.τ Cert.LayerNormIdeal.sig) → Buf (Elt Ideal) ℓ) (g : Dev Cert.LayerNormIdeal.nD → PrngReg)
    (m' : (ℓ : Loc Cert.LayerNormRefIdeal.nD Cert.LayerNormRefIdeal.τ Cert.LayerNormRefIdeal.sig) → Buf (Elt Ideal) ℓ) (g' : Dev Cert.LayerNormRefIdeal.nD → PrngReg), Pre_LayerNormIdeal m →
    (∀ c : Dev Cert.LayerNormIdeal.nD,
      m' ((c.tc : Thread Cert.LayerNormRefIdeal.nD Cert.LayerNormRefIdeal.τ).loc Cert.LayerNormRefIdeal.main_arg0) = m ((c.tc : Thread Cert.LayerNormIdeal.nD Cert.LayerNormIdeal.τ).loc Cert.LayerNormIdeal.main_arg0)
      ∧ m' ((c.tc : Thread Cert.LayerNormRefIdeal.nD Cert.LayerNormRefIdeal.τ).loc Cert.LayerNormRefIdeal.main_arg1) = m ((c.tc : Thread Cert.LayerNormIdeal.nD Cert.LayerNormIdeal.τ).loc Cert.LayerNormIdeal.main_arg1)
      ∧ m' ((c.tc : Thread Cert.LayerNormRefIdeal.nD Cert.LayerNormRefIdeal.τ).loc Cert.LayerNormRefIdeal.main_arg2) = m ((c.tc : Thread Cert.LayerNormIdeal.nD Cert.LayerNormIdeal.τ).loc Cert.LayerNormIdeal.main_arg2)) →
    ∃ (v0 : (c : Dev Cert.LayerNormIdeal.nD) → Buf (Elt Ideal) ((c.tc : Thread Cert.LayerNormIdeal.nD Cert.LayerNormIdeal.τ).loc Cert.LayerNormIdeal.main_v7)),
      θ_run (Cert.LayerNormIdeal.defs (F := Ideal)) (onTc (τ := Cert.LayerNormIdeal.τ) (Cert.LayerNormIdeal.main (F := Ideal))) ⟨m, fun _ => 0, g⟩ (fun r => ∀ c : Dev Cert.LayerNormIdeal.nD,
          r.2.mem ((c.tc : Thread Cert.LayerNormIdeal.nD Cert.LayerNormIdeal.τ).loc Cert.LayerNormIdeal.main_v7) = v0 c
          ∧ r.2.mem ((c.tc : Thread Cert.LayerNormIdeal.nD Cert.LayerNormIdeal.τ).loc Cert.LayerNormIdeal.main_arg0) = m ((c.tc : Thread Cert.LayerNormIdeal.nD Cert.LayerNormIdeal.τ).loc Cert.LayerNormIdeal.main_arg0)
          ∧ r.2.mem ((c.tc : Thread Cert.LayerNormIdeal.nD Cert.LayerNormIdeal.τ).loc Cert.LayerNormIdeal.main_arg1) = m ((c.tc : Thread Cert.LayerNormIdeal.nD Cert.LayerNormIdeal.τ).loc Cert.LayerNormIdeal.main_arg1)
          ∧ r.2.mem ((c.tc : Thread Cert.LayerNormIdeal.nD Cert.LayerNormIdeal.τ).loc Cert.LayerNormIdeal.main_arg2) = m ((c.tc : Thread Cert.LayerNormIdeal.nD Cert.LayerNormIdeal.τ).loc Cert.LayerNormIdeal.main_arg2))
      ∧ θ_run (Cert.LayerNormRefIdeal.defs (F := Ideal)) (onTc (τ := Cert.LayerNormRefIdeal.τ) (Cert.LayerNormRefIdeal.main (F := Ideal))) ⟨m', fun _ => 0, g'⟩ (fun r => ∀ c : Dev Cert.LayerNormRefIdeal.nD,
          r.2.mem ((c.tc : Thread Cert.LayerNormRefIdeal.nD Cert.LayerNormRefIdeal.τ).loc Cert.LayerNormRefIdeal.main_v28) = v0 c
          ∧ r.2.mem ((c.tc : Thread Cert.LayerNormRefIdeal.nD Cert.LayerNormRefIdeal.τ).loc Cert.LayerNormRefIdeal.main_arg0) = m' ((c.tc : Thread Cert.LayerNormRefIdeal.nD Cert.LayerNormRefIdeal.τ).loc Cert.LayerNormRefIdeal.main_arg0)
          ∧ r.2.mem ((c.tc : Thread Cert.LayerNormRefIdeal.nD Cert.LayerNormRefIdeal.τ).loc Cert.LayerNormRefIdeal.main_arg1) = m' ((c.tc : Thread Cert.LayerNormRefIdeal.nD Cert.LayerNormRefIdeal.τ).loc Cert.LayerNormRefIdeal.main_arg1)
          ∧ r.2.mem ((c.tc : Thread Cert.LayerNormRefIdeal.nD Cert.LayerNormRefIdeal.τ).loc Cert.LayerNormRefIdeal.main_arg2) = m' ((c.tc : Thread Cert.LayerNormRefIdeal.nD Cert.LayerNormRefIdeal.τ).loc Cert.LayerNormRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v5)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v5) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v5) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_InProjA_InProjAIdeal : Prop :=
  True

def algebraic_InProjAIdeal_InProjARefIdeal [hInProjAIdeal : Cert.InProjAIdeal.Facts] [hInProjARefIdeal : Cert.InProjARefIdeal.Facts] : Prop :=
  ∀ (m : (ℓ : Loc Cert.InProjAIdeal.nD Cert.InProjAIdeal.τ Cert.InProjAIdeal.sig) → Buf (Elt Ideal) ℓ) (g : Dev Cert.InProjAIdeal.nD → PrngReg)
    (m' : (ℓ : Loc Cert.InProjARefIdeal.nD Cert.InProjARefIdeal.τ Cert.InProjARefIdeal.sig) → Buf (Elt Ideal) ℓ) (g' : Dev Cert.InProjARefIdeal.nD → PrngReg), Pre_InProjAIdeal m →
    (∀ c : Dev Cert.InProjAIdeal.nD,
      m' ((c.tc : Thread Cert.InProjARefIdeal.nD Cert.InProjARefIdeal.τ).loc Cert.InProjARefIdeal.main_arg0) = m ((c.tc : Thread Cert.InProjAIdeal.nD Cert.InProjAIdeal.τ).loc Cert.InProjAIdeal.main_arg0)
      ∧ m' ((c.tc : Thread Cert.InProjARefIdeal.nD Cert.InProjARefIdeal.τ).loc Cert.InProjARefIdeal.main_arg1) = m ((c.tc : Thread Cert.InProjAIdeal.nD Cert.InProjAIdeal.τ).loc Cert.InProjAIdeal.main_arg1)
      ∧ m' ((c.tc : Thread Cert.InProjARefIdeal.nD Cert.InProjARefIdeal.τ).loc Cert.InProjARefIdeal.main_arg2) = m ((c.tc : Thread Cert.InProjAIdeal.nD Cert.InProjAIdeal.τ).loc Cert.InProjAIdeal.main_arg2)
      ∧ m' ((c.tc : Thread Cert.InProjARefIdeal.nD Cert.InProjARefIdeal.τ).loc Cert.InProjARefIdeal.main_arg3) = m ((c.tc : Thread Cert.InProjAIdeal.nD Cert.InProjAIdeal.τ).loc Cert.InProjAIdeal.main_arg3)
      ∧ m' ((c.tc : Thread Cert.InProjARefIdeal.nD Cert.InProjARefIdeal.τ).loc Cert.InProjARefIdeal.main_arg4) = m ((c.tc : Thread Cert.InProjAIdeal.nD Cert.InProjAIdeal.τ).loc Cert.InProjAIdeal.main_arg4)) →
    ∃ (v0 : (c : Dev Cert.InProjAIdeal.nD) → Buf (Elt Ideal) ((c.tc : Thread Cert.InProjAIdeal.nD Cert.InProjAIdeal.τ).loc Cert.InProjAIdeal.main_v17_0)) (v1 : (c : Dev Cert.InProjAIdeal.nD) → Buf (Elt Ideal) ((c.tc : Thread Cert.InProjAIdeal.nD Cert.InProjAIdeal.τ).loc Cert.InProjAIdeal.main_v17_1)) (v2 : (c : Dev Cert.InProjAIdeal.nD) → Buf (Elt Ideal) ((c.tc : Thread Cert.InProjAIdeal.nD Cert.InProjAIdeal.τ).loc Cert.InProjAIdeal.main_v17_2)) (v3 : (c : Dev Cert.InProjAIdeal.nD) → Buf (Elt Ideal) ((c.tc : Thread Cert.InProjAIdeal.nD Cert.InProjAIdeal.τ).loc Cert.InProjAIdeal.main_v17_3)),
      θ_run (Cert.InProjAIdeal.defs (F := Ideal)) (onTc (τ := Cert.InProjAIdeal.τ) (Cert.InProjAIdeal.main (F := Ideal))) ⟨m, fun _ => 0, g⟩ (fun r => ∀ c : Dev Cert.InProjAIdeal.nD,
          r.2.mem ((c.tc : Thread Cert.InProjAIdeal.nD Cert.InProjAIdeal.τ).loc Cert.InProjAIdeal.main_v17_0) = v0 c
          ∧ r.2.mem ((c.tc : Thread Cert.InProjAIdeal.nD Cert.InProjAIdeal.τ).loc Cert.InProjAIdeal.main_v17_1) = v1 c
          ∧ r.2.mem ((c.tc : Thread Cert.InProjAIdeal.nD Cert.InProjAIdeal.τ).loc Cert.InProjAIdeal.main_v17_2) = v2 c
          ∧ r.2.mem ((c.tc : Thread Cert.InProjAIdeal.nD Cert.InProjAIdeal.τ).loc Cert.InProjAIdeal.main_v17_3) = v3 c
          ∧ r.2.mem ((c.tc : Thread Cert.InProjAIdeal.nD Cert.InProjAIdeal.τ).loc Cert.InProjAIdeal.main_arg0) = m ((c.tc : Thread Cert.InProjAIdeal.nD Cert.InProjAIdeal.τ).loc Cert.InProjAIdeal.main_arg0)
          ∧ r.2.mem ((c.tc : Thread Cert.InProjAIdeal.nD Cert.InProjAIdeal.τ).loc Cert.InProjAIdeal.main_arg1) = m ((c.tc : Thread Cert.InProjAIdeal.nD Cert.InProjAIdeal.τ).loc Cert.InProjAIdeal.main_arg1)
          ∧ r.2.mem ((c.tc : Thread Cert.InProjAIdeal.nD Cert.InProjAIdeal.τ).loc Cert.InProjAIdeal.main_arg2) = m ((c.tc : Thread Cert.InProjAIdeal.nD Cert.InProjAIdeal.τ).loc Cert.InProjAIdeal.main_arg2)
          ∧ r.2.mem ((c.tc : Thread Cert.InProjAIdeal.nD Cert.InProjAIdeal.τ).loc Cert.InProjAIdeal.main_arg3) = m ((c.tc : Thread Cert.InProjAIdeal.nD Cert.InProjAIdeal.τ).loc Cert.InProjAIdeal.main_arg3)
          ∧ r.2.mem ((c.tc : Thread Cert.InProjAIdeal.nD Cert.InProjAIdeal.τ).loc Cert.InProjAIdeal.main_arg4) = m ((c.tc : Thread Cert.InProjAIdeal.nD Cert.InProjAIdeal.τ).loc Cert.InProjAIdeal.main_arg4))
      ∧ θ_run (Cert.InProjARefIdeal.defs (F := Ideal)) (onTc (τ := Cert.InProjARefIdeal.τ) (Cert.InProjARefIdeal.main (F := Ideal))) ⟨m', fun _ => 0, g'⟩ (fun r => ∀ c : Dev Cert.InProjARefIdeal.nD,
          r.2.mem ((c.tc : Thread Cert.InProjARefIdeal.nD Cert.InProjARefIdeal.τ).loc Cert.InProjARefIdeal.main_v17) = v0 c
          ∧ r.2.mem ((c.tc : Thread Cert.InProjARefIdeal.nD Cert.InProjARefIdeal.τ).loc Cert.InProjARefIdeal.main_v18) = v1 c
          ∧ r.2.mem ((c.tc : Thread Cert.InProjARefIdeal.nD Cert.InProjARefIdeal.τ).loc Cert.InProjARefIdeal.main_v20) = v2 c
          ∧ r.2.mem ((c.tc : Thread Cert.InProjARefIdeal.nD Cert.InProjARefIdeal.τ).loc Cert.InProjARefIdeal.main_v22) = v3 c
          ∧ r.2.mem ((c.tc : Thread Cert.InProjARefIdeal.nD Cert.InProjARefIdeal.τ).loc Cert.InProjARefIdeal.main_arg0) = m' ((c.tc : Thread Cert.InProjARefIdeal.nD Cert.InProjARefIdeal.τ).loc Cert.InProjARefIdeal.main_arg0)
          ∧ r.2.mem ((c.tc : Thread Cert.InProjARefIdeal.nD Cert.InProjARefIdeal.τ).loc Cert.InProjARefIdeal.main_arg1) = m' ((c.tc : Thread Cert.InProjARefIdeal.nD Cert.InProjARefIdeal.τ).loc Cert.InProjARefIdeal.main_arg1)
          ∧ r.2.mem ((c.tc : Thread Cert.InProjARefIdeal.nD Cert.InProjARefIdeal.τ).loc Cert.InProjARefIdeal.main_arg2) = m' ((c.tc : Thread Cert.InProjARefIdeal.nD Cert.InProjARefIdeal.τ).loc Cert.InProjARefIdeal.main_arg2)
          ∧ r.2.mem ((c.tc : Thread Cert.InProjARefIdeal.nD Cert.InProjARefIdeal.τ).loc Cert.InProjARefIdeal.main_arg3) = m' ((c.tc : Thread Cert.InProjARefIdeal.nD Cert.InProjARefIdeal.τ).loc Cert.InProjARefIdeal.main_arg3)
          ∧ r.2.mem ((c.tc : Thread Cert.InProjARefIdeal.nD Cert.InProjARefIdeal.τ).loc Cert.InProjARefIdeal.main_arg4) = m' ((c.tc : Thread Cert.InProjARefIdeal.nD Cert.InProjARefIdeal.τ).loc Cert.InProjARefIdeal.main_arg4))

def preserves_InProjB_InProjBIdeal : Prop :=
  True

def algebraic_InProjBIdeal_InProjBRefIdeal [hInProjBIdeal : Cert.InProjBIdeal.Facts] [hInProjBRefIdeal : Cert.InProjBRefIdeal.Facts] : Prop :=
  ∀ (m : (ℓ : Loc Cert.InProjBIdeal.nD Cert.InProjBIdeal.τ Cert.InProjBIdeal.sig) → Buf (Elt Ideal) ℓ) (g : Dev Cert.InProjBIdeal.nD → PrngReg)
    (m' : (ℓ : Loc Cert.InProjBRefIdeal.nD Cert.InProjBRefIdeal.τ Cert.InProjBRefIdeal.sig) → Buf (Elt Ideal) ℓ) (g' : Dev Cert.InProjBRefIdeal.nD → PrngReg), Pre_InProjBIdeal m →
    (∀ c : Dev Cert.InProjBIdeal.nD,
      m' ((c.tc : Thread Cert.InProjBRefIdeal.nD Cert.InProjBRefIdeal.τ).loc Cert.InProjBRefIdeal.main_arg0) = m ((c.tc : Thread Cert.InProjBIdeal.nD Cert.InProjBIdeal.τ).loc Cert.InProjBIdeal.main_arg0)
      ∧ m' ((c.tc : Thread Cert.InProjBRefIdeal.nD Cert.InProjBRefIdeal.τ).loc Cert.InProjBRefIdeal.main_arg1) = m ((c.tc : Thread Cert.InProjBIdeal.nD Cert.InProjBIdeal.τ).loc Cert.InProjBIdeal.main_arg1)) →
    ∃ (v0 : (c : Dev Cert.InProjBIdeal.nD) → Buf (Elt Ideal) ((c.tc : Thread Cert.InProjBIdeal.nD Cert.InProjBIdeal.τ).loc Cert.InProjBIdeal.main_v6)),
      θ_run (Cert.InProjBIdeal.defs (F := Ideal)) (onTc (τ := Cert.InProjBIdeal.τ) (Cert.InProjBIdeal.main (F := Ideal))) ⟨m, fun _ => 0, g⟩ (fun r => ∀ c : Dev Cert.InProjBIdeal.nD,
          r.2.mem ((c.tc : Thread Cert.InProjBIdeal.nD Cert.InProjBIdeal.τ).loc Cert.InProjBIdeal.main_v6) = v0 c
          ∧ r.2.mem ((c.tc : Thread Cert.InProjBIdeal.nD Cert.InProjBIdeal.τ).loc Cert.InProjBIdeal.main_arg0) = m ((c.tc : Thread Cert.InProjBIdeal.nD Cert.InProjBIdeal.τ).loc Cert.InProjBIdeal.main_arg0)
          ∧ r.2.mem ((c.tc : Thread Cert.InProjBIdeal.nD Cert.InProjBIdeal.τ).loc Cert.InProjBIdeal.main_arg1) = m ((c.tc : Thread Cert.InProjBIdeal.nD Cert.InProjBIdeal.τ).loc Cert.InProjBIdeal.main_arg1))
      ∧ θ_run (Cert.InProjBRefIdeal.defs (F := Ideal)) (onTc (τ := Cert.InProjBRefIdeal.τ) (Cert.InProjBRefIdeal.main (F := Ideal))) ⟨m', fun _ => 0, g'⟩ (fun r => ∀ c : Dev Cert.InProjBRefIdeal.nD,
          r.2.mem ((c.tc : Thread Cert.InProjBRefIdeal.nD Cert.InProjBRefIdeal.τ).loc Cert.InProjBRefIdeal.main_v2) = v0 c
          ∧ r.2.mem ((c.tc : Thread Cert.InProjBRefIdeal.nD Cert.InProjBRefIdeal.τ).loc Cert.InProjBRefIdeal.main_arg0) = m' ((c.tc : Thread Cert.InProjBRefIdeal.nD Cert.InProjBRefIdeal.τ).loc Cert.InProjBRefIdeal.main_arg0)
          ∧ r.2.mem ((c.tc : Thread Cert.InProjBRefIdeal.nD Cert.InProjBRefIdeal.τ).loc Cert.InProjBRefIdeal.main_arg1) = m' ((c.tc : Thread Cert.InProjBRefIdeal.nD Cert.InProjBRefIdeal.τ).loc Cert.InProjBRefIdeal.main_arg1))

def Claim : Prop :=
  ∃ (hKernel : Cert.Kernel.Facts) (hKernelIdeal : Cert.KernelIdeal.Facts) (hLayerNorm : Cert.LayerNorm.Facts) (hLayerNormIdeal : Cert.LayerNormIdeal.Facts) (hLayerNormRefIdeal : Cert.LayerNormRefIdeal.Facts) (hOutProj : Cert.OutProj.Facts) (hOutProjIdeal : Cert.OutProjIdeal.Facts) (hOutProjRefIdeal : Cert.OutProjRefIdeal.Facts) (hInProjA : Cert.InProjA.Facts) (hInProjAIdeal : Cert.InProjAIdeal.Facts) (hInProjARefIdeal : Cert.InProjARefIdeal.Facts) (hInProjB : Cert.InProjB.Facts) (hInProjBIdeal : Cert.InProjBIdeal.Facts) (hInProjBRefIdeal : Cert.InProjBRefIdeal.Facts),
    quiescent_Kernel (hKernel := hKernel)
    ∧ quiescent_KernelIdeal (hKernelIdeal := hKernelIdeal)
    ∧ quiescent_LayerNorm (hLayerNorm := hLayerNorm)
    ∧ quiescent_LayerNormIdeal (hLayerNormIdeal := hLayerNormIdeal)
    ∧ quiescent_LayerNormRefIdeal (hLayerNormRefIdeal := hLayerNormRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProjA (hInProjA := hInProjA)
    ∧ quiescent_InProjAIdeal (hInProjAIdeal := hInProjAIdeal)
    ∧ quiescent_InProjARefIdeal (hInProjARefIdeal := hInProjARefIdeal)
    ∧ quiescent_InProjB (hInProjB := hInProjB)
    ∧ quiescent_InProjBIdeal (hInProjBIdeal := hInProjBIdeal)
    ∧ quiescent_InProjBRefIdeal (hInProjBRefIdeal := hInProjBRefIdeal)
    ∧ preserves_Kernel_KernelIdeal
    ∧ preserves_LayerNorm_LayerNormIdeal
    ∧ algebraic_LayerNormIdeal_LayerNormRefIdeal (hLayerNormIdeal := hLayerNormIdeal) (hLayerNormRefIdeal := hLayerNormRefIdeal)
    ∧ preserves_OutProj_OutProjIdeal
    ∧ algebraic_OutProjIdeal_OutProjRefIdeal (hOutProjIdeal := hOutProjIdeal) (hOutProjRefIdeal := hOutProjRefIdeal)
    ∧ preserves_InProjA_InProjAIdeal
    ∧ algebraic_InProjAIdeal_InProjARefIdeal (hInProjAIdeal := hInProjAIdeal) (hInProjARefIdeal := hInProjARefIdeal)
    ∧ preserves_InProjB_InProjBIdeal
    ∧ algebraic_InProjBIdeal_InProjBRefIdeal (hInProjBIdeal := hInProjBIdeal) (hInProjBRefIdeal := hInProjBRefIdeal)
-- ==== Kernel.lean ====
abbrev S4x4096x16384 : Shape := ⟨3, ![4, 4096, 16384]⟩
abbrev S32x16 : Shape := ⟨2, ![32, 16]⟩
abbrev S1x128 : Shape := ⟨2, ![1, 128]⟩
abbrev S1x256 : Shape := ⟨2, ![1, 256]⟩
abbrev S512 : Shape := ⟨1, ![512]⟩
abbrev S_ : Shape := ⟨0, ![]⟩
abbrev S16384 : Shape := ⟨1, ![16384]⟩
abbrev S1x1x16384 : Shape := ⟨3, ![1, 1, 16384]⟩
abbrev S16384x128x128 : Shape := ⟨3, ![16384, 128, 128]⟩
abbrev S128x16384x128 : Shape := ⟨3, ![128, 16384, 128]⟩
abbrev S512x1 : Shape := ⟨2, ![512, 1]⟩
abbrev S512x16 : Shape := ⟨2, ![512, 16]⟩
abbrev S1x16 : Shape := ⟨2, ![1, 16]⟩
abbrev S16 : Shape := ⟨1, ![16]⟩
abbrev S511x16 : Shape := ⟨2, ![511, 16]⟩
abbrev S16x512 : Shape := ⟨2, ![16, 512]⟩
abbrev S16x1x512 : Shape := ⟨3, ![16, 1, 512]⟩
abbrev S128 : Shape := ⟨1, ![128]⟩
abbrev S4x128 : Shape := ⟨2, ![4, 128]⟩
abbrev S256 : Shape := ⟨1, ![256]⟩
abbrev S16384x4096 : Shape := ⟨2, ![16384, 4096]⟩
abbrev S1x1024x128 : Shape := ⟨3, ![1, 1024, 128]⟩
abbrev S1x4096x128 : Shape := ⟨3, ![1, 4096, 128]⟩
abbrev S2x4096x128 : Shape := ⟨3, ![2, 4096, 128]⟩
abbrev S2x1024x128 : Shape := ⟨3, ![2, 1024, 128]⟩
abbrev S1x1x512 : Shape := ⟨3, ![1, 1, 512]⟩
abbrev S1024x256 : Shape := ⟨2, ![1024, 256]⟩
abbrev S512x128 : Shape := ⟨2, ![512, 128]⟩
abbrev S512x256 : Shape := ⟨2, ![512, 256]⟩
abbrev S512x512 : Shape := ⟨2, ![512, 512]⟩
abbrev S128x128 : Shape := ⟨2, ![128, 128]⟩
abbrev S2x2x512x512 : Shape := ⟨4, ![2, 2, 512, 512]⟩
abbrev S1x512 : Shape := ⟨2, ![1, 512]⟩
abbrev S1 : Shape := ⟨1, ![1]⟩
abbrev S1x1 : Shape := ⟨2, ![1, 1]⟩
abbrev S1x512x128 : Shape := ⟨3, ![1, 512, 128]⟩
abbrev S1x1x512x512 : Shape := ⟨4, ![1, 1, 512, 512]⟩
abbrev S1x1x128x128 : Shape := ⟨4, ![1, 1, 128, 128]⟩

abbrev nBuf : Space → Nat
  | .hbm => 60
  | .vmem => 27
  | .smem => 0
  | _ => 0

abbrev bufTy : (tb : Table) → Fin (tcTables nBuf tb) → BufTy
  | .hbm, ⟨0, _⟩ => ⟨S4x4096x16384, .f32⟩
  | .hbm, ⟨1, _⟩ => ⟨S32x16, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x256, .f32⟩
  | .hbm, ⟨7, _⟩ => ⟨S512, .i32⟩
  | .hbm, ⟨8, _⟩ => ⟨S512, .i1⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S16384, .i32⟩
  | .hbm, ⟨17, _⟩ => ⟨S_, .i32⟩
  | .hbm, ⟨18, _⟩ => ⟨S16384, .i32⟩
  | .hbm, ⟨19, _⟩ => ⟨S16384, .i1⟩
  | .hbm, ⟨20, _⟩ => ⟨S_, .f32⟩
  | .hbm, ⟨21, _⟩ => ⟨S_, .f32⟩
  | .hbm, ⟨22, _⟩ => ⟨S16384, .f32⟩
  | .hbm, ⟨23, _⟩ => ⟨S16384, .f32⟩
  | .hbm, ⟨24, _⟩ => ⟨S16384, .f32⟩
  | .hbm, ⟨25, _⟩ => ⟨S1x1x16384, .f32⟩
  | .hbm, ⟨26, _⟩ => ⟨S4x4096x16384, .f32⟩
  | .hbm, ⟨27, _⟩ => ⟨S4x4096x16384, .f32⟩
  | .hbm, ⟨28, _⟩ => ⟨S4x4096x16384, .bf16⟩
  | .hbm, ⟨29, _⟩ => ⟨S16384x128x128, .bf16⟩
  | .hbm, ⟨30, _⟩ => ⟨S128x16384x128, .bf16⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S512, .i32⟩
  | .hbm, ⟨35, _⟩ => ⟨S512x1, .i32⟩
  | .hbm, ⟨36, _⟩ => ⟨S512x16, .f32⟩
  | .hbm, ⟨37, _⟩ => ⟨S1x16, .f32⟩
  | .hbm, ⟨38, _⟩ => ⟨S16, .f32⟩
  | .hbm, ⟨39, _⟩ => ⟨S1x16, .f32⟩
  | .hbm, ⟨40, _⟩ => ⟨S512x16, .f32⟩
  | .hbm, ⟨41, _⟩ => ⟨S512x16, .f32⟩
  | .hbm, ⟨42, _⟩ => ⟨S512x16, .f32⟩
  | .hbm, ⟨43, _⟩ => ⟨S1x16, .f32⟩
  | .hbm, ⟨44, _⟩ => ⟨S511x16, .f32⟩
  | .hbm, ⟨45, _⟩ => ⟨S512x16, .f32⟩
  | .hbm, ⟨46, _⟩ => ⟨S16x512, .f32⟩
  | .hbm, ⟨47, _⟩ => ⟨S16x1x512, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S4x128, .f32⟩
  | .hbm, ⟨57, _⟩ => ⟨S256, .f32⟩
  | .hbm, ⟨58, _⟩ => ⟨S1x256, .f32⟩
  | .hbm, ⟨59, _⟩ => ⟨S16384x4096, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S2x4096x128, .bf16⟩
  | .local _ .vmem, ⟨9, _⟩ => ⟨S2x4096x128, .bf16⟩
  | .local _ .vmem, ⟨10, _⟩ => ⟨S2x1024x128, .bf16⟩
  | .local _ .vmem, ⟨11, _⟩ => ⟨S2x1024x128, .bf16⟩
  | .local _ .vmem, ⟨12, _⟩ => ⟨S1x1x512, .f32⟩
  | .local _ .vmem, ⟨13, _⟩ => ⟨S1x1x512, .f32⟩
  | .local _ .vmem, ⟨14, _⟩ => ⟨S4x128, .f32⟩
  | .local _ .vmem, ⟨15, _⟩ => ⟨S1x256, .f32⟩
  | .local _ .vmem, ⟨16, _⟩ => ⟨S1024x256, .bf16⟩
  | .local _ .vmem, ⟨17, _⟩ => ⟨S1024x256, .bf16⟩
  | .local _ .vmem, ⟨18, _⟩ => ⟨S512x128, .f32⟩
  | .local _ .vmem, ⟨19, _⟩ => ⟨S512x128, .f32⟩
  | .local _ .vmem, ⟨20, _⟩ => ⟨S512x256, .f32⟩
  | .local _ .vmem, ⟨21, _⟩ => ⟨S512x128, .f32⟩
  | .local _ .vmem, ⟨22, _⟩ => ⟨S512x128, .f32⟩
  | .local _ .vmem, ⟨23, _⟩ => ⟨S512x256, .f32⟩
  | .local _ .vmem, ⟨24, _⟩ => ⟨S512x512, .f32⟩
  | .local _ .vmem, ⟨25, _⟩ => ⟨S128x128, .f32⟩
  | .local _ .vmem, ⟨26, _⟩ => ⟨S2x2x512x512, .f32⟩
  | _, _ => ⟨S4x4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_cst : Ref sig .tc := ⟨.hbm, 9, rfl⟩
abbrev main_v0 : Ref sig .tc := ⟨.hbm, 10, rfl⟩
abbrev main_cst_1 : Ref sig .tc := ⟨.hbm, 11, rfl⟩
abbrev main_v1 : Ref sig .tc := ⟨.hbm, 12, rfl⟩
abbrev main_v2 : Ref sig .tc := ⟨.hbm, 13, rfl⟩
abbrev main_cst_2 : Ref sig .tc := ⟨.hbm, 14, rfl⟩
abbrev main_v3 : Ref sig .tc := ⟨.hbm, 15, rfl⟩
abbrev main_v4 : Ref sig .tc := ⟨.hbm, 16, rfl⟩
abbrev main_c_3 : Ref sig .tc := ⟨.hbm, 17, rfl⟩
abbrev main_v5 : Ref sig .tc := ⟨.hbm, 18, rfl⟩
abbrev main_v6 : Ref sig .tc := ⟨.hbm, 19, rfl⟩
abbrev main_cst_4 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call1_v0 : Ref sig .tc := ⟨.hbm, 43, rfl⟩
abbrev main_call1_v1 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![4, 16, 4], ![false, false, false]⟩

def k0_mult1 : BitVec 32 :=
  let c0_i32_34 : BitVec 32 := 0#32
  c0_i32_34
@[reducible] def k0_t1_loop (i : grid0.Coords) : Scf.Loop 32 :=
  let c0_i32_49 : BitVec 32 := 0#32
  let arg2 : BitVec 32 := BitVec.ofNat 32 (i 2).val
  let v70 : BitVec 32 := Scalar.subi arg2 c0_i32_49
  let c1_i32_50 : BitVec 32 := 1#32
  let v72 : BitVec 32 := Scalar.divsi v70 c1_i32_50
  let v73 : BitVec 32 := Scalar.muli v72 c1_i32_50
  let v74 : BitVec 32 := Scalar.addi c0_i32_49 v73
  let c1_i32_51 : BitVec 32 := 1#32
  ⟨c0_i32_49, v74, c1_i32_51⟩
def k0_mult2 (i : grid0.Coords) (k0_t1 : Fin (k0_t1_loop i).trips) : BitVec 32 :=
  let c0_i32_342 : BitVec 32 := 0#32
  let c2_i32_341 : BitVec 32 := 2#32
  let c0_i32_49 : BitVec 32 := 0#32
  let c1_i32_51 : BitVec 32 := 1#32
  let arg22 : BitVec 32 := Scf.iv c0_i32_49 c1_i32_51 k0_t1
  let v486 : BitVec 32 := Scalar.muli c2_i32_341 arg22
  let v487 : BitVec 32 := Scalar.addi c0_i32_342 v486
  let c1_i32_343 : BitVec 32 := 1#32
  let v488 : BitVec 32 := Scalar.addi v487 c1_i32_343
  let c512_i32_344 : BitVec 32 := 512#32
  let v489 : BitVec 32 := Scalar.muli v488 c512_i32_344
  v489
def k0_off1 (i : grid0.Coords) (k0_t1 : Fin (k0_t1_loop i).trips) (c1_i32_343 : BitVec 32) : Fin 3 → Nat :=
  let c0_345 : Index := 0#32
  let c0_i32_342 : BitVec 32 := 0#32
  let c2_i32_341 : BitVec 32 := 2#32
  let c0_i32_49 : BitVec 32 := 0#32
  let c1_i32_51 : BitVec 32 := 1#32
  let arg22 : BitVec 32 := Scf.iv c0_i32_49 c1_i32_51 k0_t1
  let v486 : BitVec 32 := Scalar.muli c2_i32_341 arg22
  let v487 : BitVec 32 := Scalar.addi c0_i32_342 v486
  let v488 : BitVec 32 := Scalar.addi v487 c1_i32_343
  let c512_i32_344 : BitVec 32 := 512#32
  let v489 : BitVec 32 := Scalar.muli v488 c512_i32_344
  let v490 : BitVec 32 := v489
  let v491 : Index := Scalar.indexCast v490
  let c0_346 : Index := 0#32
  ![0, v491.toNat, 0]
def k0_mult3 (i : grid0.Coords) (k0_t1 : Fin (k0_t1_loop i).trips) : BitVec 32 :=
  let c0_i32_342 : BitVec 32 := 0#32
  let c2_i32_341 : BitVec 32 := 2#32
  let c0_i32_49 : BitVec 32 := 0#32
  let c1_i32_51 : BitVec 32 := 1#32
  let arg22 : BitVec 32 := Scf.iv c0_i32_49 c1_i32_51 k0_t1
  let v486 : BitVec 32 := Scalar.muli c2_i32_341 arg22
  let v487 : BitVec 32 := Scalar.addi c0_i32_342 v486
  let c512_i32_359 : BitVec 32 := 512#32
  let v505 : BitVec 32 := Scalar.muli v487 c512_i32_359
  v505
def k0_off2 (i : grid0.Coords) (k0_t1 : Fin (k0_t1_loop i).trips) : Fin 3 → Nat :=
  let c0_360 : Index := 0#32
  let c0_i32_342 : BitVec 32 := 0#32
  let c2_i32_341 : BitVec 32 := 2#32
  let c0_i32_49 : BitVec 32 := 0#32
  let c1_i32_51 : BitVec 32 := 1#32
  let arg22 : BitVec 32 := Scf.iv c0_i32_49 c1_i32_51 k0_t1
  let v486 : BitVec 32 := Scalar.muli c2_i32_341 arg22
  let v487 : BitVec 32 := Scalar.addi c0_i32_342 v486
  let c512_i32_359 : BitVec 32 := 512#32
  let v505 : BitVec 32 := Scalar.muli v487 c512_i32_359
  let v506 : BitVec 32 := v505
  let v507 : Index := Scalar.indexCast v506
  let c0_361 : Index := 0#32
  ![0, v507.toNat, 0]
def k0_off3 (i : grid0.Coords) (k0_t1 : Fin (k0_t1_loop i).trips) : Fin 3 → Nat :=
  let c1_362 : Index := 1#32
  let c0_i32_342 : BitVec 32 := 0#32
  let c2_i32_341 : BitVec 32 := 2#32
  let c0_i32_49 : BitVec 32 := 0#32
  let c1_i32_51 : BitVec 32 := 1#32
  let arg22 : BitVec 32 := Scf.iv c0_i32_49 c1_i32_51 k0_t1
  let v486 : BitVec 32 := Scalar.muli c2_i32_341 arg22
  let v487 : BitVec 32 := Scalar.addi c0_i32_342 v486
  let c512_i32_359 : BitVec 32 := 512#32
  let v505 : BitVec 32 := Scalar.muli v487 c512_i32_359
  let v506 : BitVec 32 := v505
  let v510 : Index := Scalar.indexCast v506
  let c0_363 : Index := 0#32
  ![1, v510.toNat, 0]
def k0_mult4 (i : grid0.Coords) (k0_t1 : Fin (k0_t1_loop i).trips) : BitVec 32 :=
  let c0_i32_342 : BitVec 32 := 0#32
  let c2_i32_341 : BitVec 32 := 2#32
  let c0_i32_49 : BitVec 32 := 0#32
  let c1_i32_51 : BitVec 32 := 1#32
  let arg22 : BitVec 32 := Scf.iv c0_i32_49 c1_i32_51 k0_t1
  let v486 : BitVec 32 := Scalar.muli c2_i32_341 arg22
  let v487 : BitVec 32 := Scalar.addi c0_i32_342 v486
  let c2_i32_432 : BitVec 32 := 2#32
  let v603 : BitVec 32 := Scalar.addi v487 c2_i32_432
  let c512_i32_433 : BitVec 32 := 512#32
  let v604 : BitVec 32 := Scalar.muli v603 c512_i32_433
  v604
def k0_mult5 (i : grid0.Coords) (k0_t1 : Fin (k0_t1_loop i).trips) : BitVec 32 :=
  let c0_i32_342 : BitVec 32 := 0#32
  let c2_i32_341 : BitVec 32 := 2#32
  let c0_i32_49 : BitVec 32 := 0#32
  let c1_i32_51 : BitVec 32 := 1#32
  let arg22 : BitVec 32 := Scf.iv c0_i32_49 c1_i32_51 k0_t1
  let v486 : BitVec 32 := Scalar.muli c2_i32_341 arg22
  let v487 : BitVec 32 := Scalar.addi c0_i32_342 v486
  let c1_i32_448 : BitVec 32 := 1#32
  let v620 : BitVec 32 := Scalar.addi v487 c1_i32_448
  let c512_i32_449 : BitVec 32 := 512#32
  let v621 : BitVec 32 := Scalar.muli v620 c512_i32_449
  v621
def k0_off4 (i : grid0.Coords) (k0_t1 : Fin (k0_t1_loop i).trips) : Fin 3 → Nat :=
  let c0_450 : Index := 0#32
  let c0_i32_342 : BitVec 32 := 0#32
  let c2_i32_341 : BitVec 32 := 2#32
  let c0_i32_49 : BitVec 32 := 0#32
  let c1_i32_51 : BitVec 32 := 1#32
  let arg22 : BitVec 32 := Scf.iv c0_i32_49 c1_i32_51 k0_t1
  let v486 : BitVec 32 := Scalar.muli c2_i32_341 arg22
  let v487 : BitVec 32 := Scalar.addi c0_i32_342 v486
  let c1_i32_448 : BitVec 32 := 1#32
  let v620 : BitVec 32 := Scalar.addi v487 c1_i32_448
  let c512_i32_449 : BitVec 32 := 512#32
  let v621 : BitVec 32 := Scalar.muli v620 c512_i32_449
  let v622 : BitVec 32 := v621
  let v623 : Index := Scalar.indexCast v622
  let c0_451 : Index := 0#32
  ![0, v623.toNat, 0]
def k0_off5 (i : grid0.Coords) (k0_t1 : Fin (k0_t1_loop i).trips) : Fin 3 → Nat :=
  let c1_452 : Index := 1#32
  let c0_i32_342 : BitVec 32 := 0#32
  let c2_i32_341 : BitVec 32 := 2#32
  let c0_i32_49 : BitVec 32 := 0#32
  let c1_i32_51 : BitVec 32 := 1#32
  let arg22 : BitVec 32 := Scf.iv c0_i32_49 c1_i32_51 k0_t1
  let v486 : BitVec 32 := Scalar.muli c2_i32_341 arg22
  let v487 : BitVec 32 := Scalar.addi c0_i32_342 v486
  let c1_i32_448 : BitVec 32 := 1#32
  let v620 : BitVec 32 := Scalar.addi v487 c1_i32_448
  let c512_i32_449 : BitVec 32 := 512#32
  let v621 : BitVec 32 := Scalar.muli v620 c512_i32_449
  let v622 : BitVec 32 := v621
  let v626 : Index := Scalar.indexCast v622
  let c0_453 : Index := 0#32
  ![1, v626.toNat, 0]
@[reducible] def k0_t2_loop (i : grid0.Coords) : Scf.Loop 32 :=
  let c0_i32_49 : BitVec 32 := 0#32
  let arg2 : BitVec 32 := BitVec.ofNat 32 (i 2).val
  let v70 : BitVec 32 := Scalar.subi arg2 c0_i32_49
  let c1_i32_50 : BitVec 32 := 1#32
  let v72 : BitVec 32 := Scalar.divsi v70 c1_i32_50
  let v73 : BitVec 32 := Scalar.muli v72 c1_i32_50
  let v74 : BitVec 32 := Scalar.addi c0_i32_49 v73
  let v71 : BitVec 32 := Scalar.addi c0_i32_49 v70
  let c1_i32_52 : BitVec 32 := 1#32
  ⟨v74, v71, c1_i32_52⟩
def k0_mult6 (i : grid0.Coords) (k0_t2 : Fin (k0_t2_loop i).trips) : BitVec 32 :=
  let c0_i32_342 : BitVec 32 := 0#32
  let c2_i32_341 : BitVec 32 := 2#32
  let c0_i32_49 : BitVec 32 := 0#32
  let arg2 : BitVec 32 := BitVec.ofNat 32 (i 2).val
  let v70 : BitVec 32 := Scalar.subi arg2 c0_i32_49
  let c1_i32_50 : BitVec 32 := 1#32
  let v72 : BitVec 32 := Scalar.divsi v70 c1_i32_50
  let v73 : BitVec 32 := Scalar.muli v72 c1_i32_50
  let v74 : BitVec 32 := Scalar.addi c0_i32_49 v73
  let c1_i32_52 : BitVec 32 := 1#32
  let arg22 : BitVec 32 := Scf.iv v74 c1_i32_52 k0_t2
  let v486 : BitVec 32 := Scalar.muli c2_i32_341 arg22
  let v487 : BitVec 32 := Scalar.addi c0_i32_342 v486
  let c1_i32_343 : BitVec 32 := 1#32
  let v488 : BitVec 32 := Scalar.addi v487 c1_i32_343
  let c512_i32_344 : BitVec 32 := 512#32
  let v489 : BitVec 32 := Scalar.muli v488 c512_i32_344
  v489
def k0_off6 (i : grid0.Coords) (k0_t2 : Fin (k0_t2_loop i).trips) (c1_i32_343 : BitVec 32) : Fin 3 → Nat :=
  let c0_345 : Index := 0#32
  let c0_i32_342 : BitVec 32 := 0#32
  let c2_i32_341 : BitVec 32 := 2#32
  let c0_i32_49 : BitVec 32 := 0#32
  let arg2 : BitVec 32 := BitVec.ofNat 32 (i 2).val
  let v70 : BitVec 32 := Scalar.subi arg2 c0_i32_49
  let c1_i32_50 : BitVec 32 := 1#32
  let v72 : BitVec 32 := Scalar.divsi v70 c1_i32_50
  let v73 : BitVec 32 := Scalar.muli v72 c1_i32_50
  let v74 : BitVec 32 := Scalar.addi c0_i32_49 v73
  let c1_i32_52 : BitVec 32 := 1#32
  let arg22 : BitVec 32 := Scf.iv v74 c1_i32_52 k0_t2
  let v486 : BitVec 32 := Scalar.muli c2_i32_341 arg22
  let v487 : BitVec 32 := Scalar.addi c0_i32_342 v486
  let v488 : BitVec 32 := Scalar.addi v487 c1_i32_343
  let c512_i32_344 : BitVec 32 := 512#32
  let v489 : BitVec 32 := Scalar.muli v488 c512_i32_344
  let v490 : BitVec 32 := v489
  let v491 : Index := Scalar.indexCast v490
  let c0_346 : Index := 0#32
  ![0, v491.toNat, 0]
def k0_mult7 (i : grid0.Coords) (k0_t2 : Fin (k0_t2_loop i).trips) : BitVec 32 :=
  let c0_i32_342 : BitVec 32 := 0#32
  let c2_i32_341 : BitVec 32 := 2#32
  let c0_i32_49 : BitVec 32 := 0#32
  let arg2 : BitVec 32 := BitVec.ofNat 32 (i 2).val
  let v70 : BitVec 32 := Scalar.subi arg2 c0_i32_49
  let c1_i32_50 : BitVec 32 := 1#32
  let v72 : BitVec 32 := Scalar.divsi v70 c1_i32_50
  let v73 : BitVec 32 := Scalar.muli v72 c1_i32_50
  let v74 : BitVec 32 := Scalar.addi c0_i32_49 v73
  let c1_i32_52 : BitVec 32 := 1#32
  let arg22 : BitVec 32 := Scf.iv v74 c1_i32_52 k0_t2
  let v486 : BitVec 32 := Scalar.muli c2_i32_341 arg22
  let v487 : BitVec 32 := Scalar.addi c0_i32_342 v486
  let c512_i32_359 : BitVec 32 := 512#32
  let v505 : BitVec 32 := Scalar.muli v487 c512_i32_359
  v505
def k0_off7 (i : grid0.Coords) (k0_t2 : Fin (k0_t2_loop i).trips) : Fin 3 → Nat :=
  let c0_360 : Index := 0#32
  let c0_i32_342 : BitVec 32 := 0#32
  let c2_i32_341 : BitVec 32 := 2#32
  let c0_i32_49 : BitVec 32 := 0#32
  let arg2 : BitVec 32 := BitVec.ofNat 32 (i 2).val
  let v70 : BitVec 32 := Scalar.subi arg2 c0_i32_49
  let c1_i32_50 : BitVec 32 := 1#32
  let v72 : BitVec 32 := Scalar.divsi v70 c1_i32_50
  let v73 : BitVec 32 := Scalar.muli v72 c1_i32_50
  let v74 : BitVec 32 := Scalar.addi c0_i32_49 v73
  let c1_i32_52 : BitVec 32 := 1#32
  let arg22 : BitVec 32 := Scf.iv v74 c1_i32_52 k0_t2
  let v486 : BitVec 32 := Scalar.muli c2_i32_341 arg22
  let v487 : BitVec 32 := Scalar.addi c0_i32_342 v486
  let c512_i32_359 : BitVec 32 := 512#32
  let v505 : BitVec 32 := Scalar.muli v487 c512_i32_359
  let v506 : BitVec 32 := v505
  let v507 : Index := Scalar.indexCast v506
  let c0_361 : Index := 0#32
  ![0, v507.toNat, 0]
def k0_off8 (i : grid0.Coords) (k0_t2 : Fin (k0_t2_loop i).trips) : Fin 3 → Nat :=
  let c1_362 : Index := 1#32
  let c0_i32_342 : BitVec 32 := 0#32
  let c2_i32_341 : BitVec 32 := 2#32
  let c0_i32_49 : BitVec 32 := 0#32
  let arg2 : BitVec 32 := BitVec.ofNat 32 (i 2).val
  let v70 : BitVec 32 := Scalar.subi arg2 c0_i32_49
  let c1_i32_50 : BitVec 32 := 1#32
  let v72 : BitVec 32 := Scalar.divsi v70 c1_i32_50
  let v73 : BitVec 32 := Scalar.muli v72 c1_i32_50
  let v74 : BitVec 32 := Scalar.addi c0_i32_49 v73
  let c1_i32_52 : BitVec 32 := 1#32
  let arg22 : BitVec 32 := Scf.iv v74 c1_i32_52 k0_t2
  let v486 : BitVec 32 := Scalar.muli c2_i32_341 arg22
  let v487 : BitVec 32 := Scalar.addi c0_i32_342 v486
  let c512_i32_359 : BitVec 32 := 512#32
  let v505 : BitVec 32 := Scalar.muli v487 c512_i32_359
  let v506 : BitVec 32 := v505
  let v510 : Index := Scalar.indexCast v506
  let c0_363 : Index := 0#32
  ![1, v510.toNat, 0]
def k0_mult8 (i : grid0.Coords) (k0_t2 : Fin (k0_t2_loop i).trips) : BitVec 32 :=
  let c0_i32_342 : BitVec 32 := 0#32
  let c2_i32_341 : BitVec 32 := 2#32
  let c0_i32_49 : BitVec 32 := 0#32
  let arg2 : BitVec 32 := BitVec.ofNat 32 (i 2).val
  let v70 : BitVec 32 := Scalar.subi arg2 c0_i32_49
  let c1_i32_50 : BitVec 32 := 1#32
  let v72 : BitVec 32 := Scalar.divsi v70 c1_i32_50
  let v73 : BitVec 32 := Scalar.muli v72 c1_i32_50
  let v74 : BitVec 32 := Scalar.addi c0_i32_49 v73
  let c1_i32_52 : BitVec 32 := 1#32
  let arg22 : BitVec 32 := Scf.iv v74 c1_i32_52 k0_t2
  let v486 : BitVec 32 := Scalar.muli c2_i32_341 arg22
  let v487 : BitVec 32 := Scalar.addi c0_i32_342 v486
  let c2_i32_432 : BitVec 32 := 2#32
  let v603 : BitVec 32 := Scalar.addi v487 c2_i32_432
  let c512_i32_433 : BitVec 32 := 512#32
  let v604 : BitVec 32 := Scalar.muli v603 c512_i32_433
  v604
def k0_mult9 (i : grid0.Coords) (k0_t2 : Fin (k0_t2_loop i).trips) : BitVec 32 :=
  let c0_i32_342 : BitVec 32 := 0#32
  let c2_i32_341 : BitVec 32 := 2#32
  let c0_i32_49 : BitVec 32 := 0#32
  let arg2 : BitVec 32 := BitVec.ofNat 32 (i 2).val
  let v70 : BitVec 32 := Scalar.subi arg2 c0_i32_49
  let c1_i32_50 : BitVec 32 := 1#32
  let v72 : BitVec 32 := Scalar.divsi v70 c1_i32_50
  let v73 : BitVec 32 := Scalar.muli v72 c1_i32_50
  let v74 : BitVec 32 := Scalar.addi c0_i32_49 v73
  let c1_i32_52 : BitVec 32 := 1#32
  let arg22 : BitVec 32 := Scf.iv v74 c1_i32_52 k0_t2
  let v486 : BitVec 32 := Scalar.muli c2_i32_341 arg22
  let v487 : BitVec 32 := Scalar.addi c0_i32_342 v486
  let c1_i32_448 : BitVec 32 := 1#32
  let v620 : BitVec 32 := Scalar.addi v487 c1_i32_448
  let c512_i32_449 : BitVec 32 := 512#32
  let v621 : BitVec 32 := Scalar.muli v620 c512_i32_449
  v621
def k0_off9 (i : grid0.Coords) (k0_t2 : Fin (k0_t2_loop i).trips) : Fin 3 → Nat :=
  let c0_450 : Index := 0#32
  let c0_i32_342 : BitVec 32 := 0#32
  let c2_i32_341 : BitVec 32 := 2#32
  let c0_i32_49 : BitVec 32 := 0#32
  let arg2 : BitVec 32 := BitVec.ofNat 32 (i 2).val
  let v70 : BitVec 32 := Scalar.subi arg2 c0_i32_49
  let c1_i32_50 : BitVec 32 := 1#32
  let v72 : BitVec 32 := Scalar.divsi v70 c1_i32_50
  let v73 : BitVec 32 := Scalar.muli v72 c1_i32_50
  let v74 : BitVec 32 := Scalar.addi c0_i32_49 v73
  let c1_i32_52 : BitVec 32 := 1#32
  let arg22 : BitVec 32 := Scf.iv v74 c1_i32_52 k0_t2
  let v486 : BitVec 32 := Scalar.muli c2_i32_341 arg22
  let v487 : BitVec 32 := Scalar.addi c0_i32_342 v486
  let c1_i32_448 : BitVec 32 := 1#32
  let v620 : BitVec 32 := Scalar.addi v487 c1_i32_448
  let c512_i32_449 : BitVec 32 := 512#32
  let v621 : BitVec 32 := Scalar.muli v620 c512_i32_449
  let v622 : BitVec 32 := v621
  let v623 : Index := Scalar.indexCast v622
  let c0_451 : Index := 0#32
  ![0, v623.toNat, 0]
def k0_off10 (i : grid0.Coords) (k0_t2 : Fin (k0_t2_loop i).trips) : Fin 3 → Nat :=
  let c1_452 : Index := 1#32
  let c0_i32_342 : BitVec 32 := 0#32
  let c2_i32_341 : BitVec 32 := 2#32
  let c0_i32_49 : BitVec 32 := 0#32
  let arg2 : BitVec 32 := BitVec.ofNat 32 (i 2).val
  let v70 : BitVec 32 := Scalar.subi arg2 c0_i32_49
  let c1_i32_50 : BitVec 32 := 1#32
  let v72 : BitVec 32 := Scalar.divsi v70 c1_i32_50
  let v73 : BitVec 32 := Scalar.muli v72 c1_i32_50
  let v74 : BitVec 32 := Scalar.addi c0_i32_49 v73
  let c1_i32_52 : BitVec 32 := 1#32
  let arg22 : BitVec 32 := Scf.iv v74 c1_i32_52 k0_t2
  let v486 : BitVec 32 := Scalar.muli c2_i32_341 arg22
  let v487 : BitVec 32 := Scalar.addi c0_i32_342 v486
  let c1_i32_448 : BitVec 32 := 1#32
  let v620 : BitVec 32 := Scalar.addi v487 c1_i32_448
  let c512_i32_449 : BitVec 32 := 512#32
  let v621 : BitVec 32 := Scalar.muli v620 c512_i32_449
  let v622 : BitVec 32 := v621
  let v626 : Index := Scalar.indexCast v622
  let c0_453 : Index := 0#32
  ![1, v626.toNat, 0]
def k0_mult10 : BitVec 32 :=
  let c0_i32_53 : BitVec 32 := 0#32
  c0_i32_53
def k0_mult11 (i : grid0.Coords) : BitVec 32 :=
  let c2_i32 : BitVec 32 := 2#32
  let arg2 : BitVec 32 := BitVec.ofNat 32 (i 2).val
  let v28 : BitVec 32 := Scalar.muli c2_i32 arg2
  let c512_i32 : BitVec 32 := 512#32
  let v90 : BitVec 32 := Scalar.muli v28 c512_i32
  v90
def k0_off11 (i : grid0.Coords) : Fin 3 → Nat :=
  let c0_68 : Index := 0#32
  let c2_i32 : BitVec 32 := 2#32
  let arg2 : BitVec 32 := BitVec.ofNat 32 (i 2).val
  let v28 : BitVec 32 := Scalar.muli c2_i32 arg2
  let c512_i32 : BitVec 32 := 512#32
  let v90 : BitVec 32 := Scalar.muli v28 c512_i32
  let v91 : BitVec 32 := v90
  let v92 : Index := Scalar.indexCast v91
  let c0_69 : Index := 0#32
  ![0, v92.toNat, 0]
def k0_off12 (i : grid0.Coords) : Fin 3 → Nat :=
  let c1_70 : Index := 1#32
  let c2_i32 : BitVec 32 := 2#32
  let arg2 : BitVec 32 := BitVec.ofNat 32 (i 2).val
  let v28 : BitVec 32 := Scalar.muli c2_i32 arg2
  let c512_i32 : BitVec 32 := 512#32
  let v90 : BitVec 32 := Scalar.muli v28 c512_i32
  let v91 : BitVec 32 := v90
  let v95 : Index := Scalar.indexCast v91
  let c0_71 : Index := 0#32
  ![1, v95.toNat, 0]
def k0_mult12 : BitVec 32 :=
  let c512_i32_188 : BitVec 32 := 512#32
  c512_i32_188
def k0_mult13 : BitVec 32 :=
  let c0_i32_203 : BitVec 32 := 0#32
  c0_i32_203
@[reducible] def k0_t3_loop (i : grid0.Coords) : Scf.Loop 32 :=
  let c0_i32_255 : BitVec 32 := 0#32
  let arg2 : BitVec 32 := BitVec.ofNat 32 (i 2).val
  let v353 : BitVec 32 := Scalar.subi arg2 c0_i32_255
  let c1_i32_256 : BitVec 32 := 1#32
  let v355 : BitVec 32 := Scalar.divsi v353 c1_i32_256
  let v356 : BitVec 32 := Scalar.muli v355 c1_i32_256
  let v357 : BitVec 32 := Scalar.addi c0_i32_255 v356
  let c1_i32_257 : BitVec 32 := 1#32
  ⟨c0_i32_255, v357, c1_i32_257⟩
def k0_mult14 (i : grid0.Coords) (k0_t3 : Fin (k0_t3_loop i).trips) : BitVec 32 :=
  let c1_i32_342 : BitVec 32 := 1#32
  let c2_i32_341 : BitVec 32 := 2#32
  let c0_i32_255 : BitVec 32 := 0#32
  let c1_i32_257 : BitVec 32 := 1#32
  let arg22 : BitVec 32 := Scf.iv c0_i32_255 c1_i32_257 k0_t3
  let v486 : BitVec 32 := Scalar.muli c2_i32_341 arg22
  let v487 : BitVec 32 := Scalar.addi c1_i32_342 v486
  let c1_i32_343 : BitVec 32 := 1#32
  let v488 : BitVec 32 := Scalar.addi v487 c1_i32_343
  let c512_i32_344 : BitVec 32 := 512#32
  let v489 : BitVec 32 := Scalar.muli v488 c512_i32_344
  v489
def k0_off13 (i : grid0.Coords) (k0_t3 : Fin (k0_t3_loop i).trips) (c1_i32_343 : BitVec 32) : Fin 3 → Nat :=
  let c0_345 : Index := 0#32
  let c1_i32_342 : BitVec 32 := 1#32
  let c2_i32_341 : BitVec 32 := 2#32
  let c0_i32_255 : BitVec 32 := 0#32
  let c1_i32_257 : BitVec 32 := 1#32
  let arg22 : BitVec 32 := Scf.iv c0_i32_255 c1_i32_257 k0_t3
  let v486 : BitVec 32 := Scalar.muli c2_i32_341 arg22
  let v487 : BitVec 32 := Scalar.addi c1_i32_342 v486
  let v488 : BitVec 32 := Scalar.addi v487 c1_i32_343
  let c512_i32_344 : BitVec 32 := 512#32
  let v489 : BitVec 32 := Scalar.muli v488 c512_i32_344
  let v490 : BitVec 32 := v489
  let v491 : Index := Scalar.indexCast v490
  let c0_346 : Index := 0#32
  ![0, v491.toNat, 0]
def k0_mult15 (i : grid0.Coords) (k0_t3 : Fin (k0_t3_loop i).trips) : BitVec 32 :=
  let c1_i32_342 : BitVec 32 := 1#32
  let c2_i32_341 : BitVec 32 := 2#32
  let c0_i32_255 : BitVec 32 := 0#32
  let c1_i32_257 : BitVec 32 := 1#32
  let arg22 : BitVec 32 := Scf.iv c0_i32_255 c1_i32_257 k0_t3
  let v486 : BitVec 32 := Scalar.muli c2_i32_341 arg22
  let v487 : BitVec 32 := Scalar.addi c1_i32_342 v486
  let c512_i32_359 : BitVec 32 := 512#32
  let v505 : BitVec 32 := Scalar.muli v487 c512_i32_359
  v505
def k0_off14 (i : grid0.Coords) (k0_t3 : Fin (k0_t3_loop i).trips) : Fin 3 → Nat :=
  let c0_360 : Index := 0#32
  let c1_i32_342 : BitVec 32 := 1#32
  let c2_i32_341 : BitVec 32 := 2#32
  let c0_i32_255 : BitVec 32 := 0#32
  let c1_i32_257 : BitVec 32 := 1#32
  let arg22 : BitVec 32 := Scf.iv c0_i32_255 c1_i32_257 k0_t3
  let v486 : BitVec 32 := Scalar.muli c2_i32_341 arg22
  let v487 : BitVec 32 := Scalar.addi c1_i32_342 v486
  let c512_i32_359 : BitVec 32 := 512#32
  let v505 : BitVec 32 := Scalar.muli v487 c512_i32_359
  let v506 : BitVec 32 := v505
  let v507 : Index := Scalar.indexCast v506
  let c0_361 : Index := 0#32
  ![0, v507.toNat, 0]
def k0_off15 (i : grid0.Coords) (k0_t3 : Fin (k0_t3_loop i).trips) : Fin 3 → Nat :=
  let c1_362 : Index := 1#32
  let c1_i32_342 : BitVec 32 := 1#32
  let c2_i32_341 : BitVec 32 := 2#32
  let c0_i32_255 : BitVec 32 := 0#32
  let c1_i32_257 : BitVec 32 := 1#32
  let arg22 : BitVec 32 := Scf.iv c0_i32_255 c1_i32_257 k0_t3
  let v486 : BitVec 32 := Scalar.muli c2_i32_341 arg22
  let v487 : BitVec 32 := Scalar.addi c1_i32_342 v486
  let c512_i32_359 : BitVec 32 := 512#32
  let v505 : BitVec 32 := Scalar.muli v487 c512_i32_359
  let v506 : BitVec 32 := v505
  let v510 : Index := Scalar.indexCast v506
  let c0_363 : Index := 0#32
  ![1, v510.toNat, 0]
def k0_mult16 (i : grid0.Coords) (k0_t3 : Fin (k0_t3_loop i).trips) : BitVec 32 :=
  let c1_i32_342 : BitVec 32 := 1#32
  let c2_i32_341 : BitVec 32 := 2#32
  let c0_i32_255 : BitVec 32 := 0#32
  let c1_i32_257 : BitVec 32 := 1#32
  let arg22 : BitVec 32 := Scf.iv c0_i32_255 c1_i32_257 k0_t3
  let v486 : BitVec 32 := Scalar.muli c2_i32_341 arg22
  let v487 : BitVec 32 := Scalar.addi c1_i32_342 v486
  let c2_i32_432 : BitVec 32 := 2#32
  let v603 : BitVec 32 := Scalar.addi v487 c2_i32_432
  let c512_i32_433 : BitVec 32 := 512#32
  let v604 : BitVec 32 := Scalar.muli v603 c512_i32_433
  v604
def k0_mult17 (i : grid0.Coords) (k0_t3 : Fin (k0_t3_loop i).trips) : BitVec 32 :=
  let c1_i32_342 : BitVec 32 := 1#32
  let c2_i32_341 : BitVec 32 := 2#32
  let c0_i32_255 : BitVec 32 := 0#32
  let c1_i32_257 : BitVec 32 := 1#32
  let arg22 : BitVec 32 := Scf.iv c0_i32_255 c1_i32_257 k0_t3
  let v486 : BitVec 32 := Scalar.muli c2_i32_341 arg22
  let v487 : BitVec 32 := Scalar.addi c1_i32_342 v486
  let c1_i32_448 : BitVec 32 := 1#32
  let v620 : BitVec 32 := Scalar.addi v487 c1_i32_448
  let c512_i32_449 : BitVec 32 := 512#32
  let v621 : BitVec 32 := Scalar.muli v620 c512_i32_449
  v621
def k0_off16 (i : grid0.Coords) (k0_t3 : Fin (k0_t3_loop i).trips) : Fin 3 → Nat :=
  let c0_450 : Index := 0#32
  let c1_i32_342 : BitVec 32 := 1#32
  let c2_i32_341 : BitVec 32 := 2#32
  let c0_i32_255 : BitVec 32 := 0#32
  let c1_i32_257 : BitVec 32 := 1#32
  let arg22 : BitVec 32 := Scf.iv c0_i32_255 c1_i32_257 k0_t3
  let v486 : BitVec 32 := Scalar.muli c2_i32_341 arg22
  let v487 : BitVec 32 := Scalar.addi c1_i32_342 v486
  let c1_i32_448 : BitVec 32 := 1#32
  let v620 : BitVec 32 := Scalar.addi v487 c1_i32_448
  let c512_i32_449 : BitVec 32 := 512#32
  let v621 : BitVec 32 := Scalar.muli v620 c512_i32_449
  let v622 : BitVec 32 := v621
  let v623 : Index := Scalar.indexCast v622
  let c0_451 : Index := 0#32
  ![0, v623.toNat, 0]
def k0_off17 (i : grid0.Coords) (k0_t3 : Fin (k0_t3_loop i).trips) : Fin 3 → Nat :=
  let c1_452 : Index := 1#32
  let c1_i32_342 : BitVec 32 := 1#32
  let c2_i32_341 : BitVec 32 := 2#32
  let c0_i32_255 : BitVec 32 := 0#32
  let c1_i32_257 : BitVec 32 := 1#32
  let arg22 : BitVec 32 := Scf.iv c0_i32_255 c1_i32_257 k0_t3
  let v486 : BitVec 32 := Scalar.muli c2_i32_341 arg22
  let v487 : BitVec 32 := Scalar.addi c1_i32_342 v486
  let c1_i32_448 : BitVec 32 := 1#32
  let v620 : BitVec 32 := Scalar.addi v487 c1_i32_448
  let c512_i32_449 : BitVec 32 := 512#32
  let v621 : BitVec 32 := Scalar.muli v620 c512_i32_449
  let v622 : BitVec 32 := v621
  let v626 : Index := Scalar.indexCast v622
  let c0_453 : Index := 0#32
  ![1, v626.toNat, 0]
@[reducible] def k0_t4_loop (i : grid0.Coords) : Scf.Loop 32 :=
  let c0_i32_255 : BitVec 32 := 0#32
  let arg2 : BitVec 32 := BitVec.ofNat 32 (i 2).val
  let v353 : BitVec 32 := Scalar.subi arg2 c0_i32_255
  let c1_i32_256 : BitVec 32 := 1#32
  let v355 : BitVec 32 := Scalar.divsi v353 c1_i32_256
  let v356 : BitVec 32 := Scalar.muli v355 c1_i32_256
  let v357 : BitVec 32 := Scalar.addi c0_i32_255 v356
  let v354 : BitVec 32 := Scalar.addi c0_i32_255 v353
  let c1_i32_258 : BitVec 32 := 1#32
  ⟨v357, v354, c1_i32_258⟩
def k0_mult18 (i : grid0.Coords) (k0_t4 : Fin (k0_t4_loop i).trips) : BitVec 32 :=
  let c1_i32_342 : BitVec 32 := 1#32
  let c2_i32_341 : BitVec 32 := 2#32
  let c0_i32_255 : BitVec 32 := 0#32
  let arg2 : BitVec 32 := BitVec.ofNat 32 (i 2).val
  let v353 : BitVec 32 := Scalar.subi arg2 c0_i32_255
  let c1_i32_256 : BitVec 32 := 1#32
  let v355 : BitVec 32 := Scalar.divsi v353 c1_i32_256
  let v356 : BitVec 32 := Scalar.muli v355 c1_i32_256
  let v357 : BitVec 32 := Scalar.addi c0_i32_255 v356
  let c1_i32_258 : BitVec 32 := 1#32
  let arg22 : BitVec 32 := Scf.iv v357 c1_i32_258 k0_t4
  let v486 : BitVec 32 := Scalar.muli c2_i32_341 arg22
  let v487 : BitVec 32 := Scalar.addi c1_i32_342 v486
  let c1_i32_343 : BitVec 32 := 1#32
  let v488 : BitVec 32 := Scalar.addi v487 c1_i32_343
  let c512_i32_344 : BitVec 32 := 512#32
  let v489 : BitVec 32 := Scalar.muli v488 c512_i32_344
  v489
def k0_off18 (i : grid0.Coords) (k0_t4 : Fin (k0_t4_loop i).trips) (c1_i32_343 : BitVec 32) : Fin 3 → Nat :=
  let c0_345 : Index := 0#32
  let c1_i32_342 : BitVec 32 := 1#32
  let c2_i32_341 : BitVec 32 := 2#32
  let c0_i32_255 : BitVec 32 := 0#32
  let arg2 : BitVec 32 := BitVec.ofNat 32 (i 2).val
  let v353 : BitVec 32 := Scalar.subi arg2 c0_i32_255
  let c1_i32_256 : BitVec 32 := 1#32
  let v355 : BitVec 32 := Scalar.divsi v353 c1_i32_256
  let v356 : BitVec 32 := Scalar.muli v355 c1_i32_256
  let v357 : BitVec 32 := Scalar.addi c0_i32_255 v356
  let c1_i32_258 : BitVec 32 := 1#32
  let arg22 : BitVec 32 := Scf.iv v357 c1_i32_258 k0_t4
  let v486 : BitVec 32 := Scalar.muli c2_i32_341 arg22
  let v487 : BitVec 32 := Scalar.addi c1_i32_342 v486
  let v488 : BitVec 32 := Scalar.addi v487 c1_i32_343
  let c512_i32_344 : BitVec 32 := 512#32
  let v489 : BitVec 32 := Scalar.muli v488 c512_i32_344
  let v490 : BitVec 32 := v489
  let v491 : Index := Scalar.indexCast v490
  let c0_346 : Index := 0#32
  ![0, v491.toNat, 0]
def k0_mult19 (i : grid0.Coords) (k0_t4 : Fin (k0_t4_loop i).trips) : BitVec 32 :=
  let c1_i32_342 : BitVec 32 := 1#32
  let c2_i32_341 : BitVec 32 := 2#32
  let c0_i32_255 : BitVec 32 := 0#32
  let arg2 : BitVec 32 := BitVec.ofNat 32 (i 2).val
  let v353 : BitVec 32 := Scalar.subi arg2 c0_i32_255
  let c1_i32_256 : BitVec 32 := 1#32
  let v355 : BitVec 32 := Scalar.divsi v353 c1_i32_256
  let v356 : BitVec 32 := Scalar.muli v355 c1_i32_256
  let v357 : BitVec 32 := Scalar.addi c0_i32_255 v356
  let c1_i32_258 : BitVec 32 := 1#32
  let arg22 : BitVec 32 := Scf.iv v357 c1_i32_258 k0_t4
  let v486 : BitVec 32 := Scalar.muli c2_i32_341 arg22
  let v487 : BitVec 32 := Scalar.addi c1_i32_342 v486
  let c512_i32_359 : BitVec 32 := 512#32
  let v505 : BitVec 32 := Scalar.muli v487 c512_i32_359
  v505
def k0_off19 (i : grid0.Coords) (k0_t4 : Fin (k0_t4_loop i).trips) : Fin 3 → Nat :=
  let c0_360 : Index := 0#32
  let c1_i32_342 : BitVec 32 := 1#32
  let c2_i32_341 : BitVec 32 := 2#32
  let c0_i32_255 : BitVec 32 := 0#32
  let arg2 : BitVec 32 := BitVec.ofNat 32 (i 2).val
  let v353 : BitVec 32 := Scalar.subi arg2 c0_i32_255
  let c1_i32_256 : BitVec 32 := 1#32
  let v355 : BitVec 32 := Scalar.divsi v353 c1_i32_256
  let v356 : BitVec 32 := Scalar.muli v355 c1_i32_256
  let v357 : BitVec 32 := Scalar.addi c0_i32_255 v356
  let c1_i32_258 : BitVec 32 := 1#32
  let arg22 : BitVec 32 := Scf.iv v357 c1_i32_258 k0_t4
  let v486 : BitVec 32 := Scalar.muli c2_i32_341 arg22
  let v487 : BitVec 32 := Scalar.addi c1_i32_342 v486
  let c512_i32_359 : BitVec 32 := 512#32
  let v505 : BitVec 32 := Scalar.muli v487 c512_i32_359
  let v506 : BitVec 32 := v505
  let v507 : Index := Scalar.indexCast v506
  let c0_361 : Index := 0#32
  ![0, v507.toNat, 0]
def k0_off20 (i : grid0.Coords) (k0_t4 : Fin (k0_t4_loop i).trips) : Fin 3 → Nat :=
  let c1_362 : Index := 1#32
  let c1_i32_342 : BitVec 32 := 1#32
  let c2_i32_341 : BitVec 32 := 2#32
  let c0_i32_255 : BitVec 32 := 0#32
  let arg2 : BitVec 32 := BitVec.ofNat 32 (i 2).val
  let v353 : BitVec 32 := Scalar.subi arg2 c0_i32_255
  let c1_i32_256 : BitVec 32 := 1#32
  let v355 : BitVec 32 := Scalar.divsi v353 c1_i32_256
  let v356 : BitVec 32 := Scalar.muli v355 c1_i32_256
  let v357 : BitVec 32 := Scalar.addi c0_i32_255 v356
  let c1_i32_258 : BitVec 32 := 1#32
  let arg22 : BitVec 32 := Scf.iv v357 c1_i32_258 k0_t4
  let v486 : BitVec 32 := Scalar.muli c2_i32_341 arg22
  let v487 : BitVec 32 := Scalar.addi c1_i32_342 v486
  let c512_i32_359 : BitVec 32 := 512#32
  let v505 : BitVec 32 := Scalar.muli v487 c512_i32_359
  let v506 : BitVec 32 := v505
  let v510 : Index := Scalar.indexCast v506
  let c0_363 : Index := 0#32
  ![1, v510.toNat, 0]
def k0_mult20 (i : grid0.Coords) (k0_t4 : Fin (k0_t4_loop i).trips) : BitVec 32 :=
  let c1_i32_342 : BitVec 32 := 1#32
  let c2_i32_341 : BitVec 32 := 2#32
  let c0_i32_255 : BitVec 32 := 0#32
  let arg2 : BitVec 32 := BitVec.ofNat 32 (i 2).val
  let v353 : BitVec 32 := Scalar.subi arg2 c0_i32_255
  let c1_i32_256 : BitVec 32 := 1#32
  let v355 : BitVec 32 := Scalar.divsi v353 c1_i32_256
  let v356 : BitVec 32 := Scalar.muli v355 c1_i32_256
  let v357 : BitVec 32 := Scalar.addi c0_i32_255 v356
  let c1_i32_258 : BitVec 32 := 1#32
  let arg22 : BitVec 32 := Scf.iv v357 c1_i32_258 k0_t4
  let v486 : BitVec 32 := Scalar.muli c2_i32_341 arg22
  let v487 : BitVec 32 := Scalar.addi c1_i32_342 v486
  let c2_i32_432 : BitVec 32 := 2#32
  let v603 : BitVec 32 := Scalar.addi v487 c2_i32_432
  let c512_i32_433 : BitVec 32 := 512#32
  let v604 : BitVec 32 := Scalar.muli v603 c512_i32_433
  v604
def k0_mult21 (i : grid0.Coords) (k0_t4 : Fin (k0_t4_loop i).trips) : BitVec 32 :=
  let c1_i32_342 : BitVec 32 := 1#32
  let c2_i32_341 : BitVec 32 := 2#32
  let c0_i32_255 : BitVec 32 := 0#32
  let arg2 : BitVec 32 := BitVec.ofNat 32 (i 2).val
  let v353 : BitVec 32 := Scalar.subi arg2 c0_i32_255
  let c1_i32_256 : BitVec 32 := 1#32
  let v355 : BitVec 32 := Scalar.divsi v353 c1_i32_256
  let v356 : BitVec 32 := Scalar.muli v355 c1_i32_256
  let v357 : BitVec 32 := Scalar.addi c0_i32_255 v356
  let c1_i32_258 : BitVec 32 := 1#32
  let arg22 : BitVec 32 := Scf.iv v357 c1_i32_258 k0_t4
  let v486 : BitVec 32 := Scalar.muli c2_i32_341 arg22
  let v487 : BitVec 32 := Scalar.addi c1_i32_342 v486
  let c1_i32_448 : BitVec 32 := 1#32
  let v620 : BitVec 32 := Scalar.addi v487 c1_i32_448
  let c512_i32_449 : BitVec 32 := 512#32
  let v621 : BitVec 32 := Scalar.muli v620 c512_i32_449
  v621
def k0_off21 (i : grid0.Coords) (k0_t4 : Fin (k0_t4_loop i).trips) : Fin 3 → Nat :=
  let c0_450 : Index := 0#32
  let c1_i32_342 : BitVec 32 := 1#32
  let c2_i32_341 : BitVec 32 := 2#32
  let c0_i32_255 : BitVec 32 := 0#32
  let arg2 : BitVec 32 := BitVec.ofNat 32 (i 2).val
  let v353 : BitVec 32 := Scalar.subi arg2 c0_i32_255
  let c1_i32_256 : BitVec 32 := 1#32
  let v355 : BitVec 32 := Scalar.divsi v353 c1_i32_256
  let v356 : BitVec 32 := Scalar.muli v355 c1_i32_256
  let v357 : BitVec 32 := Scalar.addi c0_i32_255 v356
  let c1_i32_258 : BitVec 32 := 1#32
  let arg22 : BitVec 32 := Scf.iv v357 c1_i32_258 k0_t4
  let v486 : BitVec 32 := Scalar.muli c2_i32_341 arg22
  let v487 : BitVec 32 := Scalar.addi c1_i32_342 v486
  let c1_i32_448 : BitVec 32 := 1#32
  let v620 : BitVec 32 := Scalar.addi v487 c1_i32_448
  let c512_i32_449 : BitVec 32 := 512#32
  let v621 : BitVec 32 := Scalar.muli v620 c512_i32_449
  let v622 : BitVec 32 := v621
  let v623 : Index := Scalar.indexCast v622
  let c0_451 : Index := 0#32
  ![0, v623.toNat, 0]
def k0_off22 (i : grid0.Coords) (k0_t4 : Fin (k0_t4_loop i).trips) : Fin 3 → Nat :=
  let c1_452 : Index := 1#32
  let c1_i32_342 : BitVec 32 := 1#32
  let c2_i32_341 : BitVec 32 := 2#32
  let c0_i32_255 : BitVec 32 := 0#32
  let arg2 : BitVec 32 := BitVec.ofNat 32 (i 2).val
  let v353 : BitVec 32 := Scalar.subi arg2 c0_i32_255
  let c1_i32_256 : BitVec 32 := 1#32
  let v355 : BitVec 32 := Scalar.divsi v353 c1_i32_256
  let v356 : BitVec 32 := Scalar.muli v355 c1_i32_256
  let v357 : BitVec 32 := Scalar.addi c0_i32_255 v356
  let c1_i32_258 : BitVec 32 := 1#32
  let arg22 : BitVec 32 := Scf.iv v357 c1_i32_258 k0_t4
  let v486 : BitVec 32 := Scalar.muli c2_i32_341 arg22
  let v487 : BitVec 32 := Scalar.addi c1_i32_342 v486
  let c1_i32_448 : BitVec 32 := 1#32
  let v620 : BitVec 32 := Scalar.addi v487 c1_i32_448
  let c512_i32_449 : BitVec 32 := 512#32
  let v621 : BitVec 32 := Scalar.muli v620 c512_i32_449
  let v622 : BitVec 32 := v621
  let v626 : Index := Scalar.indexCast v622
  let c0_453 : Index := 0#32
  ![1, v626.toNat, 0]
def k0_mult22 (i : grid0.Coords) : BitVec 32 :=
  let c2_i32_15 : BitVec 32 := 2#32
  let arg2 : BitVec 32 := BitVec.ofNat 32 (i 2).val
  let v29 : BitVec 32 := Scalar.muli c2_i32_15 arg2
  let c1_i32 : BitVec 32 := 1#32
  let v30 : BitVec 32 := Scalar.addi v29 c1_i32
  let c512_i32_259 : BitVec 32 := 512#32
  let v358 : BitVec 32 := Scalar.muli v30 c512_i32_259
  v358
def k0_off23 (i : grid0.Coords) : Fin 3 → Nat :=
  let c0_260 : Index := 0#32
  let c2_i32_15 : BitVec 32 := 2#32
  let arg2 : BitVec 32 := BitVec.ofNat 32 (i 2).val
  let v29 : BitVec 32 := Scalar.muli c2_i32_15 arg2
  let c1_i32 : BitVec 32 := 1#32
  let v30 : BitVec 32 := Scalar.addi v29 c1_i32
  let c512_i32_259 : BitVec 32 := 512#32
  let v358 : BitVec 32 := Scalar.muli v30 c512_i32_259
  let v359 : BitVec 32 := v358
  let v360 : Index := Scalar.indexCast v359
  let c0_261 : Index := 0#32
  ![0, v360.toNat, 0]
def k0_off24 (i : grid0.Coords) : Fin 3 → Nat :=
  let c1_262 : Index := 1#32
  let c2_i32_15 : BitVec 32 := 2#32
  let arg2 : BitVec 32 := BitVec.ofNat 32 (i 2).val
  let v29 : BitVec 32 := Scalar.muli c2_i32_15 arg2
  let c1_i32 : BitVec 32 := 1#32
  let v30 : BitVec 32 := Scalar.addi v29 c1_i32
  let c512_i32_259 : BitVec 32 := 512#32
  let v358 : BitVec 32 := Scalar.muli v30 c512_i32_259
  let v359 : BitVec 32 := v358
  let v363 : Index := Scalar.indexCast v359
  let c0_263 : Index := 0#32
  ![1, v363.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c4_i32 : BitVec 32 := 4#32
  let v1 : BitVec 32 := Scalar.muli arg0 c4_i32
  let v2 : BitVec 32 := Scalar.addi v1 arg2
  let c0_i32 : BitVec 32 := 0#32
  let c0_i32_0 : BitVec 32 := 0#32
  ![v0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.addi v0 c1_i32
  let c4_i32 : BitVec 32 := 4#32
  let v2 : BitVec 32 := Scalar.muli arg0 c4_i32
  let v3 : BitVec 32 := Scalar.addi v2 arg2
  let c0_i32 : BitVec 32 := 0#32
  let c0_i32_0 : BitVec 32 := 0#32
  ![v1.toNat, v3.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c32_i32 : BitVec 32 := 32#32
  let v1 : BitVec 32 := Scalar.addi c32_i32 v0
  let c0_i32 : BitVec 32 := 0#32
  let c0_i32_0 : BitVec 32 := 0#32
  ![v1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c32_i32 : BitVec 32 := 32#32
  let v1 : BitVec 32 := Scalar.addi c32_i32 v0
  let c1_i32 : BitVec 32 := 1#32
  let v2 : BitVec 32 := Scalar.addi v1 c1_i32
  let c0_i32 : BitVec 32 := 0#32
  let c0_i32_0 : BitVec 32 := 0#32
  ![v2.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  ![v0.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.addi c48_i32 arg1
  let c4_i32 : BitVec 32 := 4#32
  let v1 : BitVec 32 := Scalar.muli arg0 c4_i32
  let v2 : BitVec 32 := Scalar.addi v1 arg2
  let c0_i32 : BitVec 32 := 0#32
  let c0_i32_0 : BitVec 32 := 0#32
  ![v0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== LayerNorm.lean ====
abbrev S4x4096x4096 : Shape := ⟨3, ![4, 4096, 4096]⟩
abbrev S2x4096 : Shape := ⟨2, ![2, 4096]⟩
abbrev S16384x4096 : Shape := ⟨2, ![16384, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 11
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S2x4096, .f32⟩
  | .hbm, ⟨2, _⟩ => ⟨S2x4096, .f32⟩
  | .hbm, ⟨3, _⟩ => ⟨S16384x4096, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S4096, .f32⟩
  | .hbm, ⟨8, _⟩ => ⟨S1x4096, .f32⟩
  | .hbm, ⟨9, _⟩ => ⟨S1x4096, .f32⟩
  | .hbm, ⟨10, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LayerNormRefIdeal.lean ====
abbrev S4x4096x4096 : Shape := ⟨3, ![4, 4096, 4096]⟩
abbrev S2x4096 : Shape := ⟨2, ![2, 4096]⟩
abbrev S1x4096 : Shape := ⟨2, ![1, 4096]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩
abbrev S16384x4096 : Shape := ⟨2, ![16384, 4096]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S2x4096, .f32⟩
  | .hbm, ⟨2, _⟩ => ⟨S2x4096, .f32⟩
  | .hbm, ⟨3, _⟩ => ⟨S1x4096, .f32⟩
  | .hbm, ⟨4, _⟩ => ⟨S4096, .f32⟩
  | .hbm, ⟨5, _⟩ => ⟨S1x4096, .f32⟩
  | .hbm, ⟨6, _⟩ => ⟨S4096, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x4096, .f32⟩
  | .hbm, ⟨23, _⟩ => ⟨S4x4096x4096, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1, .f32⟩
  | .hbm, ⟨28, _⟩ => ⟨S4x4096x4096, .f32⟩
  | .hbm, ⟨29, _⟩ => ⟨S4x4096x4096, .f32⟩
  | .hbm, ⟨30, _⟩ => ⟨S1x1x4096, .f32⟩
  | .hbm, ⟨31, _⟩ => ⟨S4x4096x4096, .f32⟩
  | .hbm, ⟨32, _⟩ => ⟨S4x4096x4096, .f32⟩
  | .hbm, ⟨33, _⟩ => ⟨S1x1x4096, .f32⟩
  | .hbm, ⟨34, _⟩ => ⟨S4x4096x4096, .f32⟩
  | .hbm, ⟨35, _⟩ => ⟨S4x4096x4096, .f32⟩
  | .hbm, ⟨36, _⟩ => ⟨S16384x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== OutProj.lean ====
abbrev S4x4096x4096 : Shape := ⟨3, ![4, 4096, 4096]⟩
abbrev S1x4096x4096 : Shape := ⟨3, ![1, 4096, 4096]⟩
abbrev S16384x4096 : Shape := ⟨2, ![16384, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4x4096x4096, .f32⟩
  | .hbm, ⟨1, _⟩ => ⟨S1x4096x4096, .f32⟩
  | .hbm, ⟨2, _⟩ => ⟨S4x4096x4096, .f32⟩
  | .hbm, ⟨3, _⟩ => ⟨S4x4096x4096, .bf16⟩
  | .hbm, ⟨4, _⟩ => ⟨S16384x4096, .bf16⟩
  | .hbm, ⟨5, _⟩ => ⟨S4096x4096, .f32⟩
  | .hbm, ⟨6, _⟩ => ⟨S4096x4096, .bf16⟩
  | .hbm, ⟨7, _⟩ => ⟨S16384x4096, .f32⟩
  | .hbm, ⟨8, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S4x4096x4096 : Shape := ⟨3, ![4, 4096, 4096]⟩
abbrev S1x4096x4096 : Shape := ⟨3, ![1, 4096, 4096]⟩
abbrev S4096x4096 : Shape := ⟨2, ![4096, 4096]⟩
abbrev S_ : Shape := ⟨0, ![]⟩
abbrev S16384x4096 : Shape := ⟨2, ![16384, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1x4096x4096, .f32⟩
  | .hbm, ⟨2, _⟩ => ⟨S4x4096x4096, .f32⟩
  | .hbm, ⟨3, _⟩ => ⟨S4096x4096, .f32⟩
  | .hbm, ⟨4, _⟩ => ⟨S4x4096x4096, .f32⟩
  | .hbm, ⟨5, _⟩ => ⟨S_, .f32⟩
  | .hbm, ⟨6, _⟩ => ⟨S4x4096x4096, .f32⟩
  | .hbm, ⟨7, _⟩ => ⟨S4x4096x4096, .f32⟩
  | .hbm, ⟨8, _⟩ => ⟨S4x4096x4096, .f32⟩
  | .hbm, ⟨9, _⟩ => ⟨S16384x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== InProjA.lean ====
abbrev S4x4096x4096 : Shape := ⟨3, ![4, 4096, 4096]⟩
abbrev S1x4096x16448 : Shape := ⟨3, ![1, 4096, 16448]⟩
abbrev S1x4096x16384 : Shape := ⟨3, ![1, 4096, 16384]⟩
abbrev S1x4096x4096 : Shape := ⟨3, ![1, 4096, 4096]⟩
abbrev S_ : Shape := ⟨0, ![]⟩
abbrev S16384 : Shape := ⟨1, ![16384]⟩
abbrev S4096 : Shape := ⟨1, ![4096]⟩
abbrev S16384x4096 : Shape := ⟨2, ![16384, 4096]⟩
abbrev S4096x16384 : Shape := ⟨2, ![4096, 16384]⟩
abbrev S1x16384 : Shape := ⟨2, ![1, 16384]⟩
abbrev S1x4096 : Shape := ⟨2, ![1, 4096]⟩
abbrev S16384x16384 : Shape := ⟨2, ![16384, 16384]⟩
abbrev S4096x4096 : Shape := ⟨2, ![4096, 4096]⟩
abbrev S1024x4096 : Shape := ⟨2, ![1024, 4096]⟩
abbrev S4096x1024 : Shape := ⟨2, ![4096, 1024]⟩
abbrev S1x16x16384 : Shape := ⟨3, ![1, 16, 16384]⟩
abbrev S1x16x4096 : Shape := ⟨3, ![1, 16, 4096]⟩
abbrev S1024x1024 : Shape := ⟨2, ![1024, 1024]⟩
abbrev S16x16384 : Shape := ⟨2, ![16, 16384]⟩
abbrev S16x4096 : Shape := ⟨2, ![16, 4096]⟩

abbrev nBuf : Space → Nat
  | .hbm => 35
  | .vmem => 21
  | .smem => 0
  | _ => 0

abbrev bufTy : (tb : Table) → Fin (tcTables nBuf tb) → BufTy
  | .hbm, ⟨0, _⟩ => ⟨S4x4096x4096, .f32⟩
  | .hbm, ⟨1, _⟩ => ⟨S1x4096x16448, .f32⟩
  | .hbm, ⟨2, _⟩ => ⟨S1x4096x16384, .f32⟩
  | .hbm, ⟨3, _⟩ => ⟨S1x4096x4096, .f32⟩
  | .hbm, ⟨4, _⟩ => ⟨S1x4096x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16384, .i32⟩
  | .hbm, ⟨13, _⟩ => ⟨S_, .i32⟩
  | .hbm, ⟨14, _⟩ => ⟨S16384, .i32⟩
  | .hbm, ⟨15, _⟩ => ⟨S16384, .i1⟩
  | .hbm, ⟨16, _⟩ => ⟨S_, .f32⟩
  | .hbm, ⟨17, _⟩ => ⟨S_, .f32⟩
  | .hbm, ⟨18, _⟩ => ⟨S16384, .f32⟩
  | .hbm, ⟨19, _⟩ => ⟨S16384, .f32⟩
  | .hbm, ⟨20, _⟩ => ⟨S16384, .f32⟩
  | .hbm, ⟨21, _⟩ => ⟨S_, .f32⟩
  | .hbm, ⟨22, _⟩ => ⟨S4096, .f32⟩
  | .hbm, ⟨23, _⟩ => ⟨S16384x4096, .f32⟩
  | .hbm, ⟨24, _⟩ => ⟨S16384x4096, .bf16⟩
  | .hbm, ⟨25, _⟩ => ⟨S1x4096x16384, .f32⟩
  | .hbm, ⟨26, _⟩ => ⟨S4096x16384, .f32⟩
  | .hbm, ⟨27, _⟩ => ⟨S4096x16384, .bf16⟩
  | .hbm, ⟨28, _⟩ => ⟨S1x16384, .f32⟩
  | .hbm, ⟨29, _⟩ => ⟨S1x4096, .f32⟩
  | .hbm, ⟨30, _⟩ => ⟨S1x4096, .f32⟩
  | .hbm, ⟨31, _⟩ => ⟨S16384x16384, .bf16⟩
  | .hbm, ⟨32, _⟩ => ⟨S4096x16384, .bf16⟩
  | .hbm, ⟨33, _⟩ => ⟨S4096x4096, .bf16⟩
  | .hbm, ⟨34, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x16x16384, .f32⟩
  | .local _ .vmem, ⟨5, _⟩ => ⟨S1x16x16384, .f32⟩
  | .local _ .vmem, ⟨6, _⟩ => ⟨S1x16384, .f32⟩
  | .local _ .vmem, ⟨7, _⟩ => ⟨S1x16x4096, .f32⟩
  | .local _ .vmem, ⟨8, _⟩ => ⟨S1x16x4096, .f32⟩
  | .local _ .vmem, ⟨9, _⟩ => ⟨S1x4096, .f32⟩
  | .local _ .vmem, ⟨10, _⟩ => ⟨S1x16x4096, .f32⟩
  | .local _ .vmem, ⟨11, _⟩ => ⟨S1x16x4096, .f32⟩
  | .local _ .vmem, ⟨12, _⟩ => ⟨S1x4096, .f32⟩
  | .local _ .vmem, ⟨13, _⟩ => ⟨S1024x1024, .bf16⟩
  | .local _ .vmem, ⟨14, _⟩ => ⟨S1024x1024, .bf16⟩
  | .local _ .vmem, ⟨15, _⟩ => ⟨S16x16384, .bf16⟩
  | .local _ .vmem, ⟨16, _⟩ => ⟨S16x16384, .bf16⟩
  | .local _ .vmem, ⟨17, _⟩ => ⟨S16x4096, .bf16⟩
  | .local _ .vmem, ⟨18, _⟩ => ⟨S16x4096, .bf16⟩
  | .local _ .vmem, ⟨19, _⟩ => ⟨S16x4096, .bf16⟩
  | .local _ .vmem, ⟨20, _⟩ => ⟨S16x4096, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17_0 : Ref sig .tc := ⟨.hbm, 31, rfl⟩
abbrev main_v17_1 : Ref sig .tc := ⟨.hbm, 32, rfl⟩
abbrev main_v17_2 : Ref sig .tc := ⟨.hbm, 33, rfl⟩
abbrev main_v17_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x16x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x16x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x16384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== InProjARefIdeal.lean ====
abbrev S4x4096x4096 : Shape := ⟨3, ![4, 4096, 4096]⟩
abbrev S1x4096x16448 : Shape := ⟨3, ![1, 4096, 16448]⟩
abbrev S1x4096x16384 : Shape := ⟨3, ![1, 4096, 16384]⟩
abbrev S1x4096x4096 : Shape := ⟨3, ![1, 4096, 4096]⟩
abbrev S4096x16448 : Shape := ⟨2, ![4096, 16448]⟩
abbrev S4x4096x16448 : Shape := ⟨3, ![4, 4096, 16448]⟩
abbrev S_ : Shape := ⟨0, ![]⟩
abbrev S16384 : Shape := ⟨1, ![16384]⟩
abbrev S4096x16384 : Shape := ⟨2, ![4096, 16384]⟩
abbrev S4x4096x16384 : Shape := ⟨3, ![4, 4096, 16384]⟩
abbrev S16384x16384 : Shape := ⟨2, ![16384, 16384]⟩
abbrev S4096x4096 : Shape := ⟨2, ![4096, 4096]⟩

abbrev nBuf : Space → Nat
  | .hbm => 33
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1x4096x16448, .f32⟩
  | .hbm, ⟨2, _⟩ => ⟨S1x4096x16384, .f32⟩
  | .hbm, ⟨3, _⟩ => ⟨S1x4096x4096, .f32⟩
  | .hbm, ⟨4, _⟩ => ⟨S1x4096x4096, .f32⟩
  | .hbm, ⟨5, _⟩ => ⟨S4096x16448, .f32⟩
  | .hbm, ⟨6, _⟩ => ⟨S4x4096x16448, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S4096x16384, .f32⟩
  | .hbm, ⟨16, _⟩ => ⟨S4096x16384, .f32⟩
  | .hbm, ⟨17, _⟩ => ⟨S4096x16384, .f32⟩
  | .hbm, ⟨18, _⟩ => ⟨S_, .f32⟩
  | .hbm, ⟨19, _⟩ => ⟨S_, .f32⟩
  | .hbm, ⟨20, _⟩ => ⟨S4096x16384, .f32⟩
  | .hbm, ⟨21, _⟩ => ⟨S4096x16384, .f32⟩
  | .hbm, ⟨22, _⟩ => ⟨S4096x16384, .f32⟩
  | .hbm, ⟨23, _⟩ => ⟨S4096x16384, .i1⟩
  | .hbm, ⟨24, _⟩ => ⟨S4096x16384, .f32⟩
  | .hbm, ⟨25, _⟩ => ⟨S4x4096x16384, .f32⟩
  | .hbm, ⟨26, _⟩ => ⟨S16384x16384, .f32⟩
  | .hbm, ⟨27, _⟩ => ⟨S16384x16384, .bf16⟩
  | .hbm, ⟨28, _⟩ => ⟨S4096x16384, .bf16⟩
  | .hbm, ⟨29, _⟩ => ⟨S4096x4096, .f32⟩
  | .hbm, ⟨30, _⟩ => ⟨S4096x4096, .bf16⟩
  | .hbm, ⟨31, _⟩ => ⟨S4096x4096, .f32⟩
  | .hbm, ⟨32, _⟩ => ⟨S4096x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== InProjB.lean ====
abbrev S4x4096x4096 : Shape := ⟨3, ![4, 4096, 4096]⟩
abbrev S1x4096x16384 : Shape := ⟨3, ![1, 4096, 16384]⟩
abbrev S16384x4096 : Shape := ⟨2, ![16384, 4096]⟩
abbrev S4096x16384 : Shape := ⟨2, ![4096, 16384]⟩
abbrev S128x16384x128 : Shape := ⟨3, ![128, 16384, 128]⟩
abbrev S1024x4096 : Shape := ⟨2, ![1024, 4096]⟩
abbrev S4096x1024 : Shape := ⟨2, ![4096, 1024]⟩
abbrev S8x1024x128 : Shape := ⟨3, ![8, 1024, 128]⟩
abbrev S1024x1024 : Shape := ⟨2, ![1024, 1024]⟩
abbrev S1024x128 : Shape := ⟨2, ![1024, 128]⟩
abbrev S1x1024x128 : Shape := ⟨3, ![1, 1024, 128]⟩
abbrev S16384x128x128 : Shape := ⟨3, ![16384, 128, 128]⟩
abbrev S4x4096x16384 : Shape := ⟨3, ![4, 4096, 16384]⟩

abbrev nBuf : Space → Nat
  | .hbm => 9
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S1x4096x16384, .f32⟩
  | .hbm, ⟨2, _⟩ => ⟨S16384x4096, .f32⟩
  | .hbm, ⟨3, _⟩ => ⟨S16384x4096, .bf16⟩
  | .hbm, ⟨4, _⟩ => ⟨S4096x16384, .f32⟩
  | .hbm, ⟨5, _⟩ => ⟨S4096x16384, .bf16⟩
  | .hbm, ⟨6, _⟩ => ⟨S128x16384x128, .bf16⟩
  | .hbm, ⟨7, _⟩ => ⟨S16384x128x128, .bf16⟩
  | .hbm, ⟨8, _⟩ => ⟨S4x4096x16384, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S8x1024x128, .bf16⟩
  | .local _ .vmem, ⟨5, _⟩ => ⟨S8x1024x128, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjBRefIdeal.lean ====
abbrev S4x4096x4096 : Shape := ⟨3, ![4, 4096, 4096]⟩
abbrev S1x4096x16384 : Shape := ⟨3, ![1, 4096, 16384]⟩
abbrev S4096x16384 : Shape := ⟨2, ![4096, 16384]⟩
abbrev S4x4096x16384 : Shape := ⟨3, ![4, 4096, 16384]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1x4096x16384, .f32⟩
  | .hbm, ⟨2, _⟩ => ⟨S4096x16384, .f32⟩
  | .hbm, ⟨3, _⟩ => ⟨S4x4096x16384, .f32⟩
  | .hbm, ⟨4, _⟩ => ⟨S4x4096x16384, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.AttnIdeal.lean ====
module

public import proofs.«01_k».proof.Defs
public import Idealize.ShloMosaic.Lib.LoopRemainder
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

abbrev 𝒱₀ : Variants := Variants.none
local notation "𝕄" => MT nD τ sig Unit (Elt F) ℕ (UR sig nD τ) ℕ

/-- A whole buffer of the core at contents `f`. -/
abbrev held (c : Dev nD) {sp : Space} {s : Shape} {e : EltTy} (a : Memref sig .tc sp s e) (f : Buf (Elt F) (a.view.loc (c : Thread nD τ))) : sProp 𝕄 :=
  iprop(a.view.loc (c : Thread nD τ) ↦[a.view.set]{fullShare} f)

set_option warn.classDefReducibility false in
@[sl_loop] def loopInv_k0_t1 (c : Dev nD)  (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S2x4096x128 .bf16) (harg7 : arg7.IsWhole) (arg8 : Memref sig .tc .vmem S2x1024x128 .bf16) (harg8 : arg8.IsWhole) (arg9 : Memref sig .tc .vmem S1x1x512 .f32) (harg9 : arg9.IsWhole) (arg10 : Memref sig .tc .vmem S4x128 .f32) (harg10 : arg10.IsWhole) (arg11 : Memref sig .tc .vmem S1x256 .f32) (harg11 : arg11.IsWhole) (arg12 : Memref sig .tc .vmem S1024x256 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S512x256 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x256 .f32) (harg18 : arg18.IsWhole) (arg19 : Memref sig .tc .vmem S512x512 .f32) (harg19 : arg19.IsWhole) (arg20 : Memref sig .tc .vmem S128x128 .f32) (harg20 : arg20.IsWhole) (arg21 : Memref sig .tc .vmem S2x2x512x512 .f32) (harg21 : arg21.IsWhole) (v21 : FVec F S512x128 .bf16) (v23 : FVec F S512x128 .bf16) (v28 : BitVec 32) (f5 : Buf (Elt F) (arg5.view.loc (c : Thread nD τ))) (f6 : Buf (Elt F) (arg6.view.loc (c : Thread nD τ))) (f7 : Buf (Elt F) (arg7.view.loc (c : Thread nD τ))) (f20 : Buf (Elt F) (arg20.view.loc (c : Thread nD τ))) :
    LoopInvTy_k0_t1 (F := F) Unit ℕ (UR sig nD τ) ℕ 𝒱₀ c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 0#32 v21 v23 v21 v21 v28 0#32 (constant S512x512 .f32 0#32) where
  inv := fun k acc => iprop(held c arg5 f5 ∗ held c arg6 f6 ∗ held c arg7 f7 ∗ held c arg20 f20 ∗ (∃ f, held c arg13 f) ∗ (∃ f, held c arg14 f) ∗ (∃ f, held c arg15 f) ∗ (∃ f, held c arg16 f) ∗ (∃ f, held c arg17 f) ∗ (∃ f, held c arg18 f) ∗ (∃ f, held c arg21 f))
  step := fun k acc => by
    unfold k0_t1_body held
    iintro ⟨H5, H6, H7, H20, ⟨%f13, H13⟩, ⟨%f14, H14⟩, ⟨%f15, H15⟩, ⟨%f16, H16⟩, ⟨%f17, H17⟩, ⟨%f18, H18⟩, ⟨%f21, H21⟩⟩
    sl_exec
    sl_step
    sl_close

set_option warn.classDefReducibility false in
@[sl_loop] def loopInv_k0_t3 (c : Dev nD)  (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S2x4096x128 .bf16) (harg7 : arg7.IsWhole) (arg8 : Memref sig .tc .vmem S2x1024x128 .bf16) (harg8 : arg8.IsWhole) (arg9 : Memref sig .tc .vmem S1x1x512 .f32) (harg9 : arg9.IsWhole) (arg10 : Memref sig .tc .vmem S4x128 .f32) (harg10 : arg10.IsWhole) (arg11 : Memref sig .tc .vmem S1x256 .f32) (harg11 : arg11.IsWhole) (arg12 : Memref sig .tc .vmem S1024x256 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S512x256 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x256 .f32) (harg18 : arg18.IsWhole) (arg19 : Memref sig .tc .vmem S512x512 .f32) (harg19 : arg19.IsWhole) (arg20 : Memref sig .tc .vmem S128x128 .f32) (harg20 : arg20.IsWhole) (arg21 : Memref sig .tc .vmem S2x2x512x512 .f32) (harg21 : arg21.IsWhole) (v25 : FVec F S512x128 .bf16) (v27 : FVec F S512x128 .bf16) (v30 : BitVec 32) (c0_i32_255 : BitVec 32) (f5 : Buf (Elt F) (arg5.view.loc (c : Thread nD τ))) (f6 : Buf (Elt F) (arg6.view.loc (c : Thread nD τ))) (f7 : Buf (Elt F) (arg7.view.loc (c : Thread nD τ))) (f20 : Buf (Elt F) (arg20.view.loc (c : Thread nD τ))) :
    LoopInvTy_k0_t3 (F := F) Unit ℕ (UR sig nD τ) ℕ 𝒱₀ c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v25 v27 v30 c0_i32_255 0#32 0#32 where
  inv := fun k acc => iprop(held c arg5 f5 ∗ held c arg6 f6 ∗ held c arg7 f7 ∗ held c arg20 f20 ∗ (∃ f, held c arg13 f) ∗ (∃ f, held c arg14 f) ∗ (∃ f, held c arg15 f) ∗ (∃ f, held c arg16 f) ∗ (∃ f, held c arg17 f) ∗ (∃ f, held c arg18 f) ∗ (∃ f, held c arg21 f))
  step := fun k acc => by
    unfold k0_t3_body held
    iintro ⟨H5, H6, H7, H20, ⟨%f13, H13⟩, ⟨%f14, H14⟩, ⟨%f15, H15⟩, ⟨%f16, H16⟩, ⟨%f17, H17⟩, ⟨%f18, H18⟩, ⟨%f21, H21⟩⟩
    sl_exec
    sl_step
    sl_close

/-- The buffers of one call of the kernel: the nine operands at `x`, the result and the nine scratch buffers at anything. -/
def res (c : Dev nD) (arg3 : Memref sig .tc .vmem S1x1024x128 .bf16) (harg3 : arg3.IsWhole) (arg4 : Memref sig .tc .vmem S1x1024x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S2x4096x128 .bf16) (harg7 : arg7.IsWhole) (arg8 : Memref sig .tc .vmem S2x1024x128 .bf16) (harg8 : arg8.IsWhole) (arg9 : Memref sig .tc .vmem S1x1x512 .f32) (harg9 : arg9.IsWhole) (arg10 : Memref sig .tc .vmem S4x128 .f32) (harg10 : arg10.IsWhole) (arg11 : Memref sig .tc .vmem S1x256 .f32) (harg11 : arg11.IsWhole) (arg12 : Memref sig .tc .vmem S1024x256 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S512x256 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x256 .f32) (harg18 : arg18.IsWhole) (arg19 : Memref sig .tc .vmem S512x512 .f32) (harg19 : arg19.IsWhole) (arg20 : Memref sig .tc .vmem S128x128 .f32) (harg20 : arg20.IsWhole) (arg21 : Memref sig .tc .vmem S2x2x512x512 .f32) (harg21 : arg21.IsWhole) (x3 : Vec F S1x1024x128 .bf16) (x4 : Vec F S1x1024x128 .bf16) (x5 : Vec F S1x4096x128 .bf16) (x6 : Vec F S1x4096x128 .bf16) (x7 : Vec F S2x4096x128 .bf16) (x8 : Vec F S2x1024x128 .bf16) (x9 : Vec F S1x1x512 .f32) (x10 : Vec F S4x128 .f32) (x11 : Vec F S1x256 .f32) : sProp 𝕄 :=
  iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d))

theorem sound_kernel (c : Dev nD) (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S2x4096x128 .bf16) (harg7 : arg7.IsWhole) (arg8 : Memref sig .tc .vmem S2x1024x128 .bf16) (harg8 : arg8.IsWhole) (arg9 : Memref sig .tc .vmem S1x1x512 .f32) (harg9 : arg9.IsWhole) (arg10 : Memref sig .tc .vmem S4x128 .f32) (harg10 : arg10.IsWhole) (arg11 : Memref sig .tc .vmem S1x256 .f32) (harg11 : arg11.IsWhole) (arg12 : Memref sig .tc .vmem S1024x256 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S512x256 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x256 .f32) (harg18 : arg18.IsWhole) (arg19 : Memref sig .tc .vmem S512x512 .f32) (harg19 : arg19.IsWhole) (arg20 : Memref sig .tc .vmem S128x128 .f32) (harg20 : arg20.IsWhole) (arg21 : Memref sig .tc .vmem S2x2x512x512 .f32) (harg21 : arg21.IsWhole) (x3 : Vec F S1x1024x128 .bf16) (x4 : Vec F S1x1024x128 .bf16) (x5 : Vec F S1x4096x128 .bf16) (x6 : Vec F S1x4096x128 .bf16) (x7 : Vec F S2x4096x128 .bf16) (x8 : Vec F S2x1024x128 .bf16) (x9 : Vec F S1x1x512 .f32) (x10 : Vec F S4x128 .f32) (x11 : Vec F S1x256 .f32) (K : PUnit → sProp 𝕄) :
    iprop(res c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x3 x4 x5 x6 x7 x8 x9 x10 x11 ∗ (res c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x3 x4 x5 x6 x7 x8 x9 x10 x11 -∗ K ⟨⟩))
      ⊢ wp frame (wpE (defs₀ (F := F)) Variants.none c none) Set.univ (cc0_diff_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_diff_attention_eq_skeleton]; unfold cc0_diff_attention_skel
  unfold res owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩⟩, Hk⟩
  subst hf3 hf4 hf5 hf6 hf7 hf8 hf9 hf10 hf11
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _, _; isplitr
    swap; · iexact H12
    ipureintro; rfl
  isplitl [H13]
  · iexists _, _; isplitr
    swap; · iexact H13
    ipureintro; rfl
  isplitl [H14]
  · iexists _, _; isplitr
    swap; · iexact H14
    ipureintro; rfl
  isplitl [H15]
  · iexists _, _; isplitr
    swap; · iexact H15
    ipureintro; rfl
  isplitl [H16]
  · iexists _, _; isplitr
    swap; · iexact H16
    ipureintro; rfl
  isplitl [H17]
  · iexists _, _; isplitr
    swap; · iexact H17
    ipureintro; rfl
  isplitl [H18]
  · iexists _, _; isplitr
    swap; · iexact H18
    ipureintro; rfl
  isplitl [H19]
  · iexists _, _; isplitr
    swap; · iexact H19
    ipureintro; rfl
  isplitl [H20]
  · iexists _, _; isplitr
    swap; · iexact H20
    ipureintro; rfl
  iexists _, _; isplitr
  swap; · iexact H21
  ipureintro; rfl

/-! ## The pipeline's proof data: the result forgotten -/

variable (m : (ℓ : Loc nD τ sig) → Buf (Elt F) ℓ) (ρ : Dev nD → PrngReg)

/-- Window 9, the result, is forgotten: the frame says nothing of what the kernel leaves in it. -/
def forgets0 : Fin 10 → Bool := fun w => w == 9

/-- The proof data on core `c`: every array as the region finds it, each operand's buffer at its block after the body,
    the result's unnamed, the scratch buffers at anything between the points, an array that several windows read
    held in shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => Pipeline.Dat.unnamed (cfg := cfg0) 9 t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the points share: the nine scratch buffers at anything and the generator register at some state. -/
theorem Phi_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d)) ∗ (∃ r, prngReg c r)) := by
  unfold Pipeline.ΦA; rw [scopedRest0_eq]; simp only [owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ X, owns (c : Thread nD τ) (st0_9 t) fullShare X))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ X, owns (c : Thread nD τ) (st0_9 t) fullShare X))

set_option maxHeartbeats 1000000 in
/-- The body at any point: the operands' buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq,
    after0_0, after0_1, after0_2, after0_3, after0_4, after0_5, after0_6, after0_7, after0_8]
  iintro ⟨⟨⟨S0, S1, S2, S3, S4, S5, S6, S7, S8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  iapply (sound_kernel c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  unfold res
  isplitl [H0 H1 H2 H3 H4 H5 H6 H7 H8 H9 S0 S1 S2 S3 S4 S5 S6 S7 S8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact S8
  iintro ⟨H0, H1, H2, H3, H4, H5, H6, H7, H8, H9, S0, S1, S2, S3, S4, S5, S6, S7, S8⟩
  isplitl [S0 S1 S2 S3 S4 S5 S6 S7 S8 Hg]
  · isplitl [S0 S1 S2 S3 S4 S5 S6 S7 S8]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at the point is the body. -/
theorem defs₀_row (t : Fin cfg0.N) : defs₀ (F := F) .tc cfg0.body (cfg0.bodyArgs t (cfg0.slots t)) = bodyAt0 t := by
  unfold defs₀; rw [Defs.onTc_tc]

/-- The body's obligation with the result forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch and the frame -/

set_option backward.isDefEq.respectTransparency.types false in
set_option maxHeartbeats 800000 in
/-- The run of the whole program: it ends, every array that no window is on is as the region found it, and every
    semaphore is back at zero. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- THE FRAME: the program runs to the end, leaves its seven arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩) (run_main m ρ)

end Cert.Proof.KernelIdeal

end
-- ==== Proof.LnValue.lean ====
module

public import proofs.«01_k».proof.Defs
public import proofs.«01_k».proof.Proof.Gen.LayerNormIdeal
public import proofs.«01_k».proof.Proof.Gen.LayerNormIdeal.Skeleton
public import proofs.«01_k».proof.Proof.Gen.LayerNormIdeal.Launch
public import proofs.«01_k».proof.Proof.Gen.LayerNormIdeal.Points
public import proofs.«01_k».proof.Proof.Gen.LayerNormIdeal.Frame
public import proofs.«01_k».proof.Proof.Gen.LayerNormIdeal.Value
public import proofs.«01_k».proof.Proof.Gen.LayerNormRefIdeal
public import proofs.«01_k».proof.Proof.Gen.LayerNormRefIdeal.Run
public import proofs.«01_k».proof.Proof.Gen.LayerNormRefIdeal.Read
public import Idealize.ShloMosaic.Lib.Pointwise
public import Idealize.ShloMosaic.Lib.ValueIdx
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LayerNormIdeal.RefValue

open Cert.LayerNormIdeal Cert.LayerNormIdeal.Gen Cert.LayerNormIdeal.Value

variable (m : (ℓ : Loc nD τ sig) → Buf (Elt Ideal) ℓ) (ρ : Dev nD → PrngReg)

/-- Where the four windows' blocks lie. -/
theorem idx : ∀ t : Fin cfg0.N,
    win0_0.index t = ![t.val, 0] ∧ win0_1.index t = ![0, 0]
      ∧ win0_2.index t = ![0, 0] ∧ win0_3.index t = ![t.val, 0] :=
  (by decide +kernel : ∀ t : Fin grid0.N, _)

theorem V0 (c : Dev nD) (i : S16384x4096.Idx) : V m c main_v0 i
    = m ((c : Thread nD τ).loc main_arg0) (ix3 (⟨(i 0).val / 4096, by have := (i 0).isLt; simp at this; omega⟩ : Fin 4) (⟨(i 0).val % 4096, by omega⟩ : Fin 4096) (i 1)) := by
  entry_read
  pointwise

theorem V5 (c : Dev nD) (i : S1x4096.Idx) : V m c main_v5 i = m ((c : Thread nD τ).loc main_arg1) (ix2 (1 : Fin 2) (i 1)) := by
  entry_read
  pointwise

theorem V6 (c : Dev nD) (i : S1x4096.Idx) : V m c main_v6 i = m ((c : Thread nD τ).loc main_arg2) (ix2 (1 : Fin 2) (i 1)) := by
  entry_read
  pointwise

/-- A row of the input block is that row of the argument. -/
theorem rd0 (c : Dev nD) (t : Fin cfg0.N) (y : S256x4096.Idx) (x : Fin 4096) :
    iblk m c 0 t (ix2 (y 0) x) = m ((c : Thread nD τ).loc main_arg0)
      (ix3 (⟨((win0_3.blk t).view.emb y 0).val / 4096, by have := ((win0_3.blk t).view.emb y 0).isLt; change _ < 16384 at this; omega⟩ : Fin 4) (⟨((win0_3.blk t).view.emb y 0).val % 4096, by omega⟩ : Fin 4096) x) := by
  blk_simp [iblk]
  rw [V0]
  blk_ext [idx t]

theorem rd0y (c : Dev nD) (t : Fin cfg0.N) (y : S256x4096.Idx) :
    iblk m c 0 t y = m ((c : Thread nD τ).loc main_arg0)
      (ix3 (⟨((win0_3.blk t).view.emb y 0).val / 4096, by have := ((win0_3.blk t).view.emb y 0).isLt; change _ < 16384 at this; omega⟩ : Fin 4) (⟨((win0_3.blk t).view.emb y 0).val % 4096, by omega⟩ : Fin 4096) ((win0_3.blk t).view.emb y 1)) := by
  blk_simp [iblk]
  rw [V0]
  blk_ext [idx t]

theorem rd1 (c : Dev nD) (t : Fin cfg0.N) (y : S256x4096.Idx) :
    iblk m c 1 t (ix2 0 (y 1)) = m ((c : Thread nD τ).loc main_arg1) (ix2 1 ((win0_3.blk t).view.emb y 1)) := by
  blk_simp [iblk]
  rw [V5]
  blk_ext [idx t]

theorem rd2 (c : Dev nD) (t : Fin cfg0.N) (y : S256x4096.Idx) :
    iblk m c 2 t (ix2 0 (y 1)) = m ((c : Thread nD τ).loc main_arg2) (ix2 1 ((win0_3.blk t).view.emb y 1)) := by
  blk_simp [iblk]
  rw [V6]
  blk_ext [idx t]

theorem point (c : Dev nD) (t : Fin cfg0.N) (y : S256x4096.Idx) :
    k0_pay1 (iblk m c 0 t) (iblk m c 1 t) (iblk m c 2 t) y
      = Cert.LayerNormRefIdeal.Read.val_main_v28 (m ((c : Thread nD τ).loc main_arg0)) (m ((c : Thread nD τ).loc main_arg1)) (m ((c : Thread nD τ).loc main_arg2)) ((win0_3.blk t).view.emb y) := by
  generalize hi : (win0_3.blk t).view.emb y = i
  pointwise [k0_pay1, Cert.LayerNormRefIdeal.Read.val_main_v28, Cert.LayerNormRefIdeal.Read.val_main_v27, Cert.LayerNormRefIdeal.Read.val_main_v26, Cert.LayerNormRefIdeal.Read.val_main_v25, Cert.LayerNormRefIdeal.Read.val_main_v24, Cert.LayerNormRefIdeal.Read.val_main_v23, Cert.LayerNormRefIdeal.Read.val_main_v22, Cert.LayerNormRefIdeal.Read.val_main_v21, Cert.LayerNormRefIdeal.Read.val_main_v20, Cert.LayerNormRefIdeal.Read.val_main_v19, Cert.LayerNormRefIdeal.Read.val_main_v18, Cert.LayerNormRefIdeal.Read.val_main_v17, Cert.LayerNormRefIdeal.Read.val_main_v16, Cert.LayerNormRefIdeal.Read.val_main_v15, Cert.LayerNormRefIdeal.Read.val_main_v14, Cert.LayerNormRefIdeal.Read.val_main_v13, Cert.LayerNormRefIdeal.Read.val_main_v12, Cert.LayerNormRefIdeal.Read.val_main_v11, Cert.LayerNormRefIdeal.Read.val_main_v10, Cert.LayerNormRefIdeal.Read.val_main_v9, Cert.LayerNormRefIdeal.Read.val_main_v8, Cert.LayerNormRefIdeal.Read.val_main_v7, Cert.LayerNormRefIdeal.Read.val_main_v6, Cert.LayerNormRefIdeal.Read.val_main_v5, Cert.LayerNormRefIdeal.Read.val_main_v4, Cert.LayerNormRefIdeal.Read.val_main_v3, Cert.LayerNormRefIdeal.Read.val_main_v2, Cert.LayerNormRefIdeal.Read.val_main_v1, Cert.LayerNormRefIdeal.Read.val_main_v0, Cert.LayerNormRefIdeal.Read.val_main_cst, Cert.LayerNormRefIdeal.Read.val_main_cst_0, Cert.LayerNormRefIdeal.Read.val_main_cst_1, Cert.LayerNormRefIdeal.Read.val_main_cst_2, Cert.LayerNormRefIdeal.Read.val_main_cst_3]
  subst hi
  reads_congr
  · exact rd0y m c t y
  · exact rd0 m c t y _
  · exact rd0 m c t y _
  · exact rd0 m c t y _
  · exact rd1 m c t y
  · exact rd2 m c t y

theorem final (c : Dev nD) : (dats m 0 c).arrAt 3 cfg0.N
    = Cert.LayerNormRefIdeal.Read.val_main_v28 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  exact point m c t y

end Cert.LayerNormIdeal.RefValue

end
-- ==== Proof.OutValue.lean ====
module

public import proofs.«01_k».proof.Defs
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import Idealize.ShloMosaic.Lib.Pointwise
public import Idealize.ShloMosaic.Lib.ValueIdx
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutProjIdeal.RefValue

open Cert.OutProjIdeal Cert.OutProjIdeal.Gen Cert.OutProjIdeal.Value

variable (m : (ℓ : Loc nD τ sig) → Buf (Elt Ideal) ℓ) (ρ : Dev nD → PrngReg)

/-- Where the four windows' blocks lie. -/
theorem idx : ∀ t : Fin cfg0.N,
    win0_0.index t = ![(grid0.coords t 0).val, 0] ∧ win0_1.index t = ![0, (grid0.coords t 1).val]
      ∧ win0_2.index t = ![(grid0.coords t 0).val, (grid0.coords t 1).val]
      ∧ win0_3.index t = ![(grid0.coords t 0).val, (grid0.coords t 1).val] :=
  (by decide +kernel : ∀ t : Fin grid0.N, _)

theorem V4 (c : Dev nD) (i : S16384x4096.Idx) : V m c main_v4 i
    = m ((c : Thread nD τ).loc main_arg2) (ix3 (⟨(i 0).val / 4096, by have := (i 0).isLt; simp at this; omega⟩ : Fin 4) (⟨(i 0).val % 4096, by omega⟩ : Fin 4096) (i 1)) := by
  entry_read
  pointwise

theorem V1 (c : Dev nD) (i : S16384x4096.Idx) : V m c main_v1 i
    = m ((c : Thread nD τ).loc main_arg0) (ix3 (⟨(i 0).val / 4096, by have := (i 0).isLt; simp at this; omega⟩ : Fin 4) (⟨(i 0).val % 4096, by omega⟩ : Fin 4096) (i 1)) := by
  entry_read
  pointwise

theorem V3 (c : Dev nD) (i : S4096x4096.Idx) : V m c main_v3 i
    = m ((c : Thread nD τ).loc main_arg1) (ix3 (0 : Fin 1) (i 0) (i 1)) := by
  entry_read
  pointwise

theorem point (c : Dev nD) (t : Fin cfg0.N) (y : S1024x1024.Idx) :
    k0_pay1 (iblk m c 0 t) (iblk m c 1 t) (iblk m c 2 t) y
      = Cert.OutProjRefIdeal.Read.val_main_v5 (m ((c : Thread nD τ).loc main_arg0)) (m ((c : Thread nD τ).loc main_arg1)) (m ((c : Thread nD τ).loc main_arg2)) ((win0_3.blk t).view.emb y) := by
  generalize hi : (win0_3.blk t).view.emb y = i
  pointwise [k0_pay1, Cert.OutProjRefIdeal.Read.val_main_v5, Cert.OutProjRefIdeal.Read.val_main_v4, Cert.OutProjRefIdeal.Read.val_main_v3, Cert.OutProjRefIdeal.Read.val_main_v2, Cert.OutProjRefIdeal.Read.val_main_v1, Cert.OutProjRefIdeal.Read.val_main_v0, Cert.OutProjRefIdeal.Read.val_main_cst]
  subst hi
  reads_congr
  · blk_simp [iblk]
    rw [V4]
    blk_ext [idx t]
  · blk_simp [iblk]
    rw [V1]
    blk_ext [idx t]
  · blk_simp [iblk]
    rw [V3]
    blk_ext [idx t]

theorem final (c : Dev nD) : (dats m 0 c).arrAt 3 cfg0.N
    = Cert.OutProjRefIdeal.Read.val_main_v5 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  exact point m c t y

end Cert.OutProjIdeal.RefValue

end
-- ==== Proof.InAValue.lean ====
module

public import proofs.«01_k».proof.Defs
public import proofs.«01_k».proof.Proof.Gen.InProjAIdeal
public import proofs.«01_k».proof.Proof.Gen.InProjAIdeal.Skeleton
public import proofs.«01_k».proof.Proof.Gen.InProjAIdeal.Launch
public import proofs.«01_k».proof.Proof.Gen.InProjAIdeal.Points
public import proofs.«01_k».proof.Proof.Gen.InProjAIdeal.Frame
public import proofs.«01_k».proof.Proof.Gen.InProjAIdeal.Value
public import proofs.«01_k».proof.Proof.Gen.InProjARefIdeal
public import proofs.«01_k».proof.Proof.Gen.InProjARefIdeal.Run
public import proofs.«01_k».proof.Proof.Gen.InProjARefIdeal.Read
public import Idealize.ShloMosaic.Lib.Pointwise
public import Idealize.ShloMosaic.Lib.ValueIdx
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InProjAIdeal.RefValue

open Cert.InProjAIdeal Cert.InProjAIdeal.Gen Cert.InProjAIdeal.Value

variable (m : (ℓ : Loc nD τ sig) → Buf (Elt Ideal) ℓ) (ρ : Dev nD → PrngReg)

/-- Where the product's three windows' blocks lie. -/
theorem idx : ∀ t : Fin cfg0.N,
    win0_0.index t = ![(grid0.coords t 0).val, 0] ∧ win0_1.index t = ![0, (grid0.coords t 1).val]
      ∧ win0_8.index t = ![(grid0.coords t 0).val, (grid0.coords t 1).val] :=
  (by decide +kernel : ∀ t : Fin grid0.N, _)

/-- Where the carried weights' blocks lie: sixteen rows a point. -/
theorem idx_side : ∀ t : Fin cfg0.N,
    win0_2.index t = ![0, t.val, 0] ∧ win0_3.index t = ![0, 0] ∧ win0_4.index t = ![0, t.val, 0] ∧ win0_5.index t = ![0, 0]
      ∧ win0_6.index t = ![0, t.val, 0] ∧ win0_7.index t = ![0, 0]
      ∧ win0_9.index t = ![t.val, 0] ∧ win0_10.index t = ![t.val, 0] ∧ win0_11.index t = ![t.val, 0] :=
  (by decide +kernel : ∀ t : Fin grid0.N, _)

theorem V10 (c : Dev nD) (i : S16384x4096.Idx) : V m c main_v10 i
    = m ((c : Thread nD τ).loc main_arg0) (ix3 (⟨(i 0).val / 4096, by have := (i 0).isLt; simp at this; omega⟩ : Fin 4) (⟨(i 0).val % 4096, by omega⟩ : Fin 4096) (i 1)) := by
  unfold V
  simp only [hostOps0, hostOps0_1, hostOps0_2, List.flatten_cons, List.flatten_nil, List.append_nil, List.cons_append, List.nil_append]
  entry_read
  pointwise

theorem V13 (c : Dev nD) (i : S4096x16384.Idx) : V m c main_v13 i
    = m ((c : Thread nD τ).loc main_arg1) (ix3 (0 : Fin 1) (i 0) (⟨(i 1).val, by have := (i 1).isLt; simp at this; omega⟩ : Fin 16448)) := by
  unfold V
  simp only [hostOps0, hostOps0_1, hostOps0_2, List.flatten_cons, List.flatten_nil, List.append_nil, List.cons_append, List.nil_append]
  entry_read
  pointwise

theorem V15 (c : Dev nD) (i : S1x4096.Idx) : V m c main_v15 i = (1 : EReal) := by
  unfold V
  simp only [hostOps0, hostOps0_1, hostOps0_2, List.flatten_cons, List.flatten_nil, List.append_nil, List.cons_append, List.nil_append]
  entry_read
  pointwise

theorem V16 (c : Dev nD) (i : S1x4096.Idx) : V m c main_v16 i = (1 : EReal) := by
  unfold V
  simp only [hostOps0, hostOps0_1, hostOps0_2, List.flatten_cons, List.flatten_nil, List.append_nil, List.cons_append, List.nil_append]
  entry_read
  pointwise

theorem V14 (c : Dev nD) (i : S1x16384.Idx) : (V m c main_v14 i : EReal) = Scalar.select (IntOp.cmpi CmpIPredicate.slt (BitVec.ofNat 32 (i 1).val) 4096#32) (Ideal.div 1 (Ideal.sqrt (Ideal.ofBits FTy.f32 1124073472#32) * Ideal.log (Ideal.ofBits FTy.f32 1073741824#32))) (1 : EReal) := by
  unfold V
  simp only [hostOps0, hostOps0_1, hostOps0_2, List.flatten_cons, List.flatten_nil, List.append_nil, List.cons_append, List.nil_append]
  entry_read
  pointwise
  change (select (cmpi CmpIPredicate.slt (iotaInDim S16384 32 0) (broadcastInDim S16384 ![] bcast_S_S16384 (constantI S_ 32 4096#32)))
    (broadcastInDim S16384 ![] bcast_S_S16384 (Host.divf (constant S_ FTy.f32 1065353216#32) (mulf (Host.sqrt (constant S_ FTy.f32 1124073472#32)) (Host.log (constant S_ FTy.f32 1073741824#32)))))
    (broadcastInDim S16384 ![] bcast_S_S16384 (constant S_ FTy.f32 1065353216#32)) : FVec Ideal S16384 .f32) (ix1 (i 1)) = _
  pointwise

theorem word_128 : Ideal.ofBits .f32 1124073472#32 = ((128 : ℝ) : EReal) := by
  simp [Ideal.ofBits, Ideal.ieee, -EReal.coe_mul]; norm_num

theorem word_2 : Ideal.ofBits .f32 1073741824#32 = ((2 : ℝ) : EReal) := by
  simp [Ideal.ofBits, Ideal.ieee, -EReal.coe_mul]; norm_num

/-- One multiplication by the folded scale is the scale and the quotient in turn. -/
theorem scale_eq (x : EReal) : x * Ideal.div 1 (Ideal.sqrt (Ideal.ofBits FTy.f32 1124073472#32) * Ideal.log (Ideal.ofBits FTy.f32 1073741824#32))
    = Ideal.div (x * Ideal.div 1 (Ideal.sqrt (Ideal.ofBits FTy.f32 1124073472#32))) (Ideal.log (Ideal.ofBits FTy.f32 1073741824#32)) := by
  have hs : Real.sqrt 128 ≠ 0 := (Real.sqrt_pos.mpr (by norm_num)).ne'
  have hl : Real.log 2 ≠ 0 := (Real.log_pos (by norm_num)).ne'
  rw [word_128, word_2, Ideal.sqrt_coe, Ideal.log_coe]
  simp only [show ¬ (128 : ℝ) < 0 by norm_num, show ¬ (2 : ℝ) ≤ 0 by norm_num, if_false]
  rw [← EReal.coe_mul, Ideal.div_coe (mul_ne_zero hs hl), Ideal.div_coe hs, Ideal.div_coe hl, one_mul, one_mul, mul_assoc, ← EReal.coe_mul]
  congr 2
  field_simp

theorem rd0 (c : Dev nD) (t : Fin cfg0.N) (y : S1024x1024.Idx) (k : Fin 4096) :
    iblk m c 0 t (ix2 (y 0) k) = m ((c : Thread nD τ).loc main_arg0)
      (ix3 (⟨((win0_8.blk t).view.emb y 0).val / 4096, by have := ((win0_8.blk t).view.emb y 0).isLt; change _ < 16384 at this; omega⟩ : Fin 4) (⟨((win0_8.blk t).view.emb y 0).val % 4096, by omega⟩ : Fin 4096) k) := by
  blk_simp [iblk]
  rw [V10]
  blk_ext [idx t]

theorem rd1 (c : Dev nD) (t : Fin cfg0.N) (y : S1024x1024.Idx) (k : Fin 4096) :
    iblk m c 1 t (ix2 k (y 1)) = m ((c : Thread nD τ).loc main_arg1)
      (ix3 0 k (⟨((win0_8.blk t).view.emb y 1).val, by have := ((win0_8.blk t).view.emb y 1).isLt; change _ < 16384 at this; omega⟩ : Fin 16448)) := by
  blk_simp [iblk]
  rw [V13]
  blk_ext [idx t]

theorem point8 (c : Dev nD) (t : Fin cfg0.N) (y : S1024x1024.Idx) :
    k0_pay2 (iblk m c 0 t) (iblk m c 1 t) y
      = Cert.InProjARefIdeal.Read.val_main_v17 (m ((c : Thread nD τ).loc main_arg0)) (m ((c : Thread nD τ).loc main_arg1)) ((win0_8.blk t).view.emb y) := by
  generalize hi : (win0_8.blk t).view.emb y = i
  pointwise [k0_pay2, Cert.InProjARefIdeal.Read.val_main_v22, Cert.InProjARefIdeal.Read.val_main_v21, Cert.InProjARefIdeal.Read.val_main_v20, Cert.InProjARefIdeal.Read.val_main_v19, Cert.InProjARefIdeal.Read.val_main_v18, Cert.InProjARefIdeal.Read.val_main_v17, Cert.InProjARefIdeal.Read.val_main_v16, Cert.InProjARefIdeal.Read.val_main_v15, Cert.InProjARefIdeal.Read.val_main_v14, Cert.InProjARefIdeal.Read.val_main_v13, Cert.InProjARefIdeal.Read.val_main_v12, Cert.InProjARefIdeal.Read.val_main_v11, Cert.InProjARefIdeal.Read.val_main_v10, Cert.InProjARefIdeal.Read.val_main_v9, Cert.InProjARefIdeal.Read.val_main_v8, Cert.InProjARefIdeal.Read.val_main_v7, Cert.InProjARefIdeal.Read.val_main_v6, Cert.InProjARefIdeal.Read.val_main_v5, Cert.InProjARefIdeal.Read.val_main_v4, Cert.InProjARefIdeal.Read.val_main_v3, Cert.InProjARefIdeal.Read.val_main_v2, Cert.InProjARefIdeal.Read.val_main_v1, Cert.InProjARefIdeal.Read.val_main_v0, Cert.InProjARefIdeal.Read.val_main_cst, Cert.InProjARefIdeal.Read.val_main_cst_0, Cert.InProjARefIdeal.Read.val_main_cst_1, Cert.InProjARefIdeal.Read.val_main_c, Cert.InProjARefIdeal.Read.val_main_call0_v0]
  subst hi
  reads_congr
  · exact rd0 m c t y _
  · exact rd1 m c t y _

theorem final8 (c : Dev nD) : (dats m 0 c).arrAt 8 cfg0.N
    = Cert.InProjARefIdeal.Read.val_main_v17 (m ((c : Thread nD τ).loc main_arg0)) (m ((c : Thread nD τ).loc main_arg1)) := by
  refine (dats m 0 c).arrAt_eq_of_covers 8 _ (by decide +kernel) fun t hf y => ?_
  blk_simp
  rw [after0_8]
  frame_out
  exact point8 m c t y

theorem rd2 (c : Dev nD) (t : Fin cfg0.N) (y : S16x16384.Idx) :
    iblk m c 2 t (ix3 0 (y 0) (y 1)) = m ((c : Thread nD τ).loc main_arg2)
      (ix3 0 ((win0_9.blk t).view.emb y 0) ((win0_9.blk t).view.emb y 1)) := by
  blk_simp [iblk]
  rw [V_main_arg2]
  blk_ext [idx_side t]

theorem rd3 (c : Dev nD) (t : Fin cfg0.N) (y : S16x16384.Idx) :
    iblk m c 3 t (ix2 0 (y 1)) = V m c main_v14 (ix2 0 ((win0_9.blk t).view.emb y 1)) := by
  blk_simp [iblk]
  blk_ext [idx_side t]

theorem point9 (c : Dev nD) (t : Fin cfg0.N) (y : S16x16384.Idx) :
    k0_pay3 (iblk m c 2 t) (iblk m c 3 t) y
      = Cert.InProjARefIdeal.Read.val_main_v18 (m ((c : Thread nD τ).loc main_arg2)) ((win0_9.blk t).view.emb y) := by
  have h2 := rd2 m c t y
  have h3 := (rd3 m c t y).trans (V14 m c _)
  generalize hi : (win0_9.blk t).view.emb y = i at h2 h3 ⊢
  pointwise [k0_pay3, Cert.InProjARefIdeal.Read.val_main_v22, Cert.InProjARefIdeal.Read.val_main_v21, Cert.InProjARefIdeal.Read.val_main_v20, Cert.InProjARefIdeal.Read.val_main_v19, Cert.InProjARefIdeal.Read.val_main_v18, Cert.InProjARefIdeal.Read.val_main_v17, Cert.InProjARefIdeal.Read.val_main_v16, Cert.InProjARefIdeal.Read.val_main_v15, Cert.InProjARefIdeal.Read.val_main_v14, Cert.InProjARefIdeal.Read.val_main_v13, Cert.InProjARefIdeal.Read.val_main_v12, Cert.InProjARefIdeal.Read.val_main_v11, Cert.InProjARefIdeal.Read.val_main_v10, Cert.InProjARefIdeal.Read.val_main_v9, Cert.InProjARefIdeal.Read.val_main_v8, Cert.InProjARefIdeal.Read.val_main_v7, Cert.InProjARefIdeal.Read.val_main_v6, Cert.InProjARefIdeal.Read.val_main_v5, Cert.InProjARefIdeal.Read.val_main_v4, Cert.InProjARefIdeal.Read.val_main_v3, Cert.InProjARefIdeal.Read.val_main_v2, Cert.InProjARefIdeal.Read.val_main_v1, Cert.InProjARefIdeal.Read.val_main_v0, Cert.InProjARefIdeal.Read.val_main_cst, Cert.InProjARefIdeal.Read.val_main_cst_0, Cert.InProjARefIdeal.Read.val_main_cst_1, Cert.InProjARefIdeal.Read.val_main_c, Cert.InProjARefIdeal.Read.val_main_call0_v0]
  rw [h2, h3]
  show _ * Scalar.select (IntOp.cmpi CmpIPredicate.slt (BitVec.ofNat 32 (i 1).val) 4096#32) _ _ = _
  unfold Scalar.select
  by_cases hc : IntOp.cmpi CmpIPredicate.slt (BitVec.ofNat 32 (i 1).val) 4096#32 = 1
  · simp only [if_pos hc]
    exact scale_eq _
  · simp only [if_neg hc]
    exact mul_one _

theorem final9 (c : Dev nD) : (dats m 0 c).arrAt 9 cfg0.N
    = Cert.InProjARefIdeal.Read.val_main_v18 (m ((c : Thread nD τ).loc main_arg2)) := by
  refine (dats m 0 c).arrAt_eq_of_covers 9 _ (by decide +kernel) fun t hf y => ?_
  blk_simp
  rw [after0_9]
  frame_out
  exact point9 m c t y

theorem rd4 (c : Dev nD) (t : Fin cfg0.N) (y : S16x4096.Idx) :
    iblk m c 4 t (ix3 0 (y 0) (y 1)) = m ((c : Thread nD τ).loc main_arg3)
      (ix3 0 ((win0_10.blk t).view.emb y 0) ((win0_10.blk t).view.emb y 1)) := by
  blk_simp [iblk]
  rw [V_main_arg3]
  blk_ext [idx_side t]

theorem rd5 (c : Dev nD) (t : Fin cfg0.N) (y : S16x4096.Idx) :
    iblk m c 5 t (ix2 0 (y 1)) = V m c main_v15 (ix2 0 ((win0_10.blk t).view.emb y 1)) := by
  blk_simp [iblk]
  blk_ext [idx_side t]

theorem point10 (c : Dev nD) (t : Fin cfg0.N) (y : S16x4096.Idx) :
    k0_pay4 (iblk m c 4 t) (iblk m c 5 t) y
      = Cert.InProjARefIdeal.Read.val_main_v20 (m ((c : Thread nD τ).loc main_arg3)) ((win0_10.blk t).view.emb y) := by
  have h2 := rd4 m c t y
  have h3 := (rd5 m c t y).trans (V15 m c _)
  generalize hi : (win0_10.blk t).view.emb y = i at h2 h3 ⊢
  pointwise [k0_pay4, Cert.InProjARefIdeal.Read.val_main_v22, Cert.InProjARefIdeal.Read.val_main_v21, Cert.InProjARefIdeal.Read.val_main_v20, Cert.InProjARefIdeal.Read.val_main_v19, Cert.InProjARefIdeal.Read.val_main_v18, Cert.InProjARefIdeal.Read.val_main_v17, Cert.InProjARefIdeal.Read.val_main_v16, Cert.InProjARefIdeal.Read.val_main_v15, Cert.InProjARefIdeal.Read.val_main_v14, Cert.InProjARefIdeal.Read.val_main_v13, Cert.InProjARefIdeal.Read.val_main_v12, Cert.InProjARefIdeal.Read.val_main_v11, Cert.InProjARefIdeal.Read.val_main_v10, Cert.InProjARefIdeal.Read.val_main_v9, Cert.InProjARefIdeal.Read.val_main_v8, Cert.InProjARefIdeal.Read.val_main_v7, Cert.InProjARefIdeal.Read.val_main_v6, Cert.InProjARefIdeal.Read.val_main_v5, Cert.InProjARefIdeal.Read.val_main_v4, Cert.InProjARefIdeal.Read.val_main_v3, Cert.InProjARefIdeal.Read.val_main_v2, Cert.InProjARefIdeal.Read.val_main_v1, Cert.InProjARefIdeal.Read.val_main_v0, Cert.InProjARefIdeal.Read.val_main_cst, Cert.InProjARefIdeal.Read.val_main_cst_0, Cert.InProjARefIdeal.Read.val_main_cst_1, Cert.InProjARefIdeal.Read.val_main_c, Cert.InProjARefIdeal.Read.val_main_call0_v0]
  rw [h2, h3]
  exact mul_one _

theorem final10 (c : Dev nD) : (dats m 0 c).arrAt 10 cfg0.N
    = Cert.InProjARefIdeal.Read.val_main_v20 (m ((c : Thread nD τ).loc main_arg3)) := by
  refine (dats m 0 c).arrAt_eq_of_covers 10 _ (by decide +kernel) fun t hf y => ?_
  blk_simp
  rw [after0_10]
  frame_out
  exact point10 m c t y

theorem rd6 (c : Dev nD) (t : Fin cfg0.N) (y : S16x4096.Idx) :
    iblk m c 6 t (ix3 0 (y 0) (y 1)) = m ((c : Thread nD τ).loc main_arg4)
      (ix3 0 ((win0_11.blk t).view.emb y 0) ((win0_11.blk t).view.emb y 1)) := by
  blk_simp [iblk]
  rw [V_main_arg4]
  blk_ext [idx_side t]

theorem rd7 (c : Dev nD) (t : Fin cfg0.N) (y : S16x4096.Idx) :
    iblk m c 7 t (ix2 0 (y 1)) = V m c main_v16 (ix2 0 ((win0_11.blk t).view.emb y 1)) := by
  blk_simp [iblk]
  blk_ext [idx_side t]

theorem point11 (c : Dev nD) (t : Fin cfg0.N) (y : S16x4096.Idx) :
    k0_pay1 (k0_pay5 (iblk m c 6 t) (iblk m c 7 t)) y
      = Cert.InProjARefIdeal.Read.val_main_v22 (m ((c : Thread nD τ).loc main_arg4)) ((win0_11.blk t).view.emb y) := by
  have h2 := rd6 m c t y
  have h3 := (rd7 m c t y).trans (V16 m c _)
  generalize hi : (win0_11.blk t).view.emb y = i at h2 h3 ⊢
  pointwise [k0_pay1, k0_pay5, Cert.InProjARefIdeal.Read.val_main_v22, Cert.InProjARefIdeal.Read.val_main_v21, Cert.InProjARefIdeal.Read.val_main_v20, Cert.InProjARefIdeal.Read.val_main_v19, Cert.InProjARefIdeal.Read.val_main_v18, Cert.InProjARefIdeal.Read.val_main_v17, Cert.InProjARefIdeal.Read.val_main_v16, Cert.InProjARefIdeal.Read.val_main_v15, Cert.InProjARefIdeal.Read.val_main_v14, Cert.InProjARefIdeal.Read.val_main_v13, Cert.InProjARefIdeal.Read.val_main_v12, Cert.InProjARefIdeal.Read.val_main_v11, Cert.InProjARefIdeal.Read.val_main_v10, Cert.InProjARefIdeal.Read.val_main_v9, Cert.InProjARefIdeal.Read.val_main_v8, Cert.InProjARefIdeal.Read.val_main_v7, Cert.InProjARefIdeal.Read.val_main_v6, Cert.InProjARefIdeal.Read.val_main_v5, Cert.InProjARefIdeal.Read.val_main_v4, Cert.InProjARefIdeal.Read.val_main_v3, Cert.InProjARefIdeal.Read.val_main_v2, Cert.InProjARefIdeal.Read.val_main_v1, Cert.InProjARefIdeal.Read.val_main_v0, Cert.InProjARefIdeal.Read.val_main_cst, Cert.InProjARefIdeal.Read.val_main_cst_0, Cert.InProjARefIdeal.Read.val_main_cst_1, Cert.InProjARefIdeal.Read.val_main_c, Cert.InProjARefIdeal.Read.val_main_call0_v0]
  rw [h2, h3]
  exact mul_one _

theorem final11 (c : Dev nD) : (dats m 0 c).arrAt 11 cfg0.N
    = Cert.InProjARefIdeal.Read.val_main_v22 (m ((c : Thread nD τ).loc main_arg4)) := by
  refine (dats m 0 c).arrAt_eq_of_covers 11 _ (by decide +kernel) fun t hf y => ?_
  blk_simp
  rw [after0_11]
  frame_out
  exact point11 m c t y

end Cert.InProjAIdeal.RefValue

end
-- ==== Proof.InBValue.lean ====
module

public import proofs.«01_k».proof.Defs
public import proofs.«01_k».proof.Proof.Gen.InProjBIdeal
public import proofs.«01_k».proof.Proof.Gen.InProjBIdeal.Skeleton
public import proofs.«01_k».proof.Proof.Gen.InProjBIdeal.Launch
public import proofs.«01_k».proof.Proof.Gen.InProjBIdeal.Points
public import proofs.«01_k».proof.Proof.Gen.InProjBIdeal.Frame
public import proofs.«01_k».proof.Proof.Gen.InProjBRefIdeal
public import proofs.«01_k».proof.Proof.Gen.InProjBRefIdeal.Run
public import proofs.«01_k».proof.Proof.Gen.InProjBRefIdeal.Read
public import Idealize.ShloMosaic.Lib.Pointwise
public import Idealize.ShloMosaic.Lib.ValueIdx
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InProjBIdeal.RefValue

open Cert.InProjBIdeal Cert.InProjBIdeal.Gen

variable (m : (ℓ : Loc nD τ sig) → Buf (Elt Ideal) ℓ) (ρ : Dev nD → PrngReg)

/-- Where the three windows' blocks lie. -/
theorem idx : ∀ t : Fin cfg0.N,
    win0_0.index t = ![(grid0.coords t 0).val, 0] ∧ win0_1.index t = ![0, (grid0.coords t 1).val]
      ∧ win0_2.index t = ![(grid0.coords t 1).val, (grid0.coords t 0).val, 0] :=
  (by decide +kernel : ∀ t : Fin grid0.N, _)

theorem V1 (c : Dev nD) (i : S16384x4096.Idx) : V m c main_v1 i
    = m ((c : Thread nD τ).loc main_arg0) (ix3 (⟨(i 0).val / 4096, by have := (i 0).isLt; simp at this; omega⟩ : Fin 4) (⟨(i 0).val % 4096, by omega⟩ : Fin 4096) (i 1)) := by
  unfold V V0
  simp only [hostOps0, List.flatten_cons, List.flatten_nil, List.append_nil, List.cons_append, List.nil_append]
  entry_read
  pointwise

theorem V3 (c : Dev nD) (i : S4096x16384.Idx) : V m c main_v3 i
    = m ((c : Thread nD τ).loc main_arg1) (ix3 (0 : Fin 1) (i 0) (i 1)) := by
  unfold V V0
  simp only [hostOps0, List.flatten_cons, List.flatten_nil, List.append_nil, List.cons_append, List.nil_append]
  entry_read
  pointwise

/-- The product, slab by slab: slab `n` holds the 128 columns from `128 n` on, row by row. -/
def slabs (x : (⟨S4x4096x4096, .f32⟩ : BufTy).Contents (Elt Ideal)) (w : (⟨S1x4096x16384, .f32⟩ : BufTy).Contents (Elt Ideal)) :
    Vec Ideal S128x16384x128 .bf16 := fun i =>
  ∑ k : Fin 4096,
    x (ix3 (⟨(i 1).val / 4096, by have := (i 1).isLt; simp at this; omega⟩ : Fin 4) (⟨(i 1).val % 4096, by omega⟩ : Fin 4096) k)
      * w (ix3 (0 : Fin 1) k (⟨(i 0).val * 128 + (i 2).val, by have := (i 0).isLt; have := (i 2).isLt; simp at *; omega⟩ : Fin 16384))

/-- One block of the product at a row and a column. -/
theorem prod_apply (x0 : Vec Ideal S1024x4096 .bf16) (x1 : Vec Ideal S4096x1024 .bf16) (i : S1024x1024.Idx) :
    k0_pay3 x0 x1 i = ∑ k : Fin 4096, x0 (ix2 (i 0) k) * x1 (ix2 k (i 1)) := by
  pointwise [k0_pay3]

/-- What the body leaves in its output block: slab `y 0`'s columns of the product. -/
theorem out_apply (x0 : Vec Ideal S1024x4096 .bf16) (x1 : Vec Ideal S4096x1024 .bf16) (y : S8x1024x128.Idx) :
    out0_2 x0 x1 y = ∑ k : Fin 4096, x0 (ix2 (y 1) k)
      * x1 (ix2 k (⟨(y 0).val * 128 + (y 2).val, by have := (y 0).isLt; have := (y 2).isLt; simp at *; omega⟩ : Fin 1024)) := by
  unfold_out out0_2
  rw [View.ld_unit_zero (by decide), View.ld_unit_zero (by decide)]
  canon_tiles x h using cover0_2 ..
  all_goals
    pointwise [k0_pay1, k0_pay2, k0_pay4, k0_pay5, k0_pay6, k0_pay7, k0_pay8, k0_pay9, prod_apply]
    exact Finset.sum_congr rfl fun k _ => congrArg₂ (· * ·) (congrArg x0 (congrArg (fun a => ix2 a k) (Fin.ext h1.symm)))
      (congrArg x1 (congrArg (ix2 k) (Fin.ext (by simp only []; omega))))

theorem rd0 (c : Dev nD) (t : Fin cfg0.N) (y : S8x1024x128.Idx) (k : Fin 4096) :
    iblk m c 0 t (ix2 (y 1) k) = m ((c : Thread nD τ).loc main_arg0)
      (ix3 (⟨((win0_2.blk t).view.emb y 1).val / 4096, by have := ((win0_2.blk t).view.emb y 1).isLt; change _ < 16384 at this; omega⟩ : Fin 4) (⟨((win0_2.blk t).view.emb y 1).val % 4096, by omega⟩ : Fin 4096) k) := by
  blk_simp [iblk]
  rw [V1]
  blk_ext [idx t]

theorem rd1 (c : Dev nD) (t : Fin cfg0.N) (y : S8x1024x128.Idx) (k : Fin 4096) (j : Fin 1024) (hj : j.val = (y 0).val * 128 + (y 2).val)
    (j' : Fin 16384) (hj' : j'.val = ((win0_2.blk t).view.emb y 0).val * 128 + ((win0_2.blk t).view.emb y 2).val) :
    iblk m c 1 t (ix2 k j) = m ((c : Thread nD τ).loc main_arg1) (ix3 (0 : Fin 1) k j') := by
  blk_simp [iblk] at hj' ⊢
  rw [(idx t).2.2] at hj'
  change j'.val = ((grid0.coords t 1).val * 8 + (y 0).val) * 128 + (0 * 128 + (y 2).val) at hj'
  rw [V3]
  blk_ext [idx t]

theorem point (c : Dev nD) (t : Fin cfg0.N) (y : S8x1024x128.Idx) :
    out0_2 (iblk m c 0 t) (iblk m c 1 t) y
      = slabs (m ((c : Thread nD τ).loc main_arg0)) (m ((c : Thread nD τ).loc main_arg1)) ((win0_2.blk t).view.emb y) := by
  rw [out_apply]
  unfold slabs
  refine Finset.sum_congr rfl fun k _ => congrArg₂ (· * ·) (rd0 m c t y k) (rd1 m c t y k _ rfl _ rfl)

theorem final (c : Dev nD) : (dats m 0 c).arrAt 2 cfg0.N
    = slabs (m ((c : Thread nD τ).loc main_arg0)) (m ((c : Thread nD τ).loc main_arg1)) := by
  refine (dats m 0 c).arrAt_eq_of_covers 2 _ (by decide +kernel) fun t hf y => ?_
  blk_simp
  rw [after0_2]
  exact point m c t y

/-- The slabs side by side, their rows reshaped, are the reference's product. -/
theorem tail_eq (x : (⟨S4x4096x4096, .f32⟩ : BufTy).Contents (Elt Ideal)) (w : (⟨S1x4096x16384, .f32⟩ : BufTy).Contents (Elt Ideal)) :
    shapeCast S4x4096x16384 (transpose S16384x128x128 [1, 0, 2] (slabs x w) transposes_S128x16384x128_S16384x128x128_1_0_2) shapeCasts_S16384x128x128_S4x4096x16384
      = Cert.InProjBRefIdeal.Read.val_main_v2 x w := by
  funext i
  pointwise [slabs, Cert.InProjBRefIdeal.Read.val_main_v2, Cert.InProjBRefIdeal.Read.val_main_v1, Cert.InProjBRefIdeal.Read.val_main_v0]
  have h1 : (i 1).val < 4096 := (i 1).isLt
  reads_congr
  · congr 2 <;> refine Fin.ext ?_ <;> simp only [] <;> omega
  · congr 2
    refine Fin.ext ?_
    simp only []
    omega

theorem result (c : Dev nD) : Pipeline.afterTail₀ cfgs (dats m) 0 (V0 m) [hostOps1] c main_v6
    = Cert.InProjBRefIdeal.Read.val_main_v2 (m ((c : Thread nD τ).loc main_arg0)) (m ((c : Thread nD τ).loc main_arg1)) := by
  rw [← tail_eq, ← final m c]
  unfold Pipeline.afterTail₀
  simp only [hostOps1, List.flatten_cons, List.flatten_nil, List.append_nil, List.cons_append, List.nil_append]
  after_results
  refine congrArg (fun a : Vec Ideal S128x16384x128 .bf16 => shapeCast S4x4096x16384 (transpose S16384x128x128 [1, 0, 2] a transposes_S128x16384x128_S16384x128x128_1_0_2) shapeCasts_S16384x128x128_S4x4096x16384) ?_
  exact Pipeline.withArrays_arr spec0 winFacts0.arr_inj c (V0 m c) (fun w => (dats m 0 c).arrAt w cfg0.N) 2

theorem run_blocks : θ_run defs (onTc (τ := τ) (main (F := Ideal))) ⟨m, fun _ => 0, ρ⟩ (fun r => ∀ c : Dev nD,
      r.2.mem ((c.tc : Thread nD τ).loc main_v6) = Cert.InProjBRefIdeal.Read.val_main_v2 (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).2 main_v6 (Pipeline.mem_restRefs_of main_v6 (by decide) (by decide))).trans (result m c), h.2 c⟩)
    (θ_run_and (run_main m ρ) (unchanged m ρ))

end Cert.InProjBIdeal.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.LayerNorm
public import proofs.«01_k».proof.Proof.Gen.LayerNorm.Skeleton
public import proofs.«01_k».proof.Proof.Gen.LayerNorm.Launch
public import proofs.«01_k».proof.Proof.Gen.LayerNorm.Points
public import proofs.«01_k».proof.Proof.Gen.LayerNorm.Frame
public import proofs.«01_k».proof.Proof.Gen.LayerNormIdeal
public import proofs.«01_k».proof.Proof.Gen.LayerNormIdeal.Skeleton
public import proofs.«01_k».proof.Proof.Gen.LayerNormIdeal.Launch
public import proofs.«01_k».proof.Proof.Gen.LayerNormIdeal.Points
public import proofs.«01_k».proof.Proof.Gen.LayerNormIdeal.Frame
public import proofs.«01_k».proof.Proof.Gen.LayerNormRefIdeal
public import proofs.«01_k».proof.Proof.Gen.LayerNormRefIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjRefIdeal.Run
public import proofs.«01_k».proof.Proof.Gen.InProjA
public import proofs.«01_k».proof.Proof.Gen.InProjA.Skeleton
public import proofs.«01_k».proof.Proof.Gen.InProjA.Launch
public import proofs.«01_k».proof.Proof.Gen.InProjA.Points
public import proofs.«01_k».proof.Proof.Gen.InProjA.Frame
public import proofs.«01_k».proof.Proof.Gen.InProjAIdeal
public import proofs.«01_k».proof.Proof.Gen.InProjAIdeal.Skeleton
public import proofs.«01_k».proof.Proof.Gen.InProjAIdeal.Launch
public import proofs.«01_k».proof.Proof.Gen.InProjAIdeal.Points
public import proofs.«01_k».proof.Proof.Gen.InProjAIdeal.Frame
public import proofs.«01_k».proof.Proof.Gen.InProjARefIdeal
public import proofs.«01_k».proof.Proof.Gen.InProjARefIdeal.Run
public import proofs.«01_k».proof.Proof.Gen.InProjB
public import proofs.«01_k».proof.Proof.Gen.InProjB.Skeleton
public import proofs.«01_k».proof.Proof.Gen.InProjB.Launch
public import proofs.«01_k».proof.Proof.Gen.InProjB.Points
public import proofs.«01_k».proof.Proof.Gen.InProjB.Frame
public import proofs.«01_k».proof.Proof.Gen.InProjBIdeal
public import proofs.«01_k».proof.Proof.Gen.InProjBIdeal.Skeleton
public import proofs.«01_k».proof.Proof.Gen.InProjBIdeal.Launch
public import proofs.«01_k».proof.Proof.Gen.InProjBIdeal.Points
public import proofs.«01_k».proof.Proof.Gen.InProjBIdeal.Frame
public import proofs.«01_k».proof.Proof.Gen.InProjBRefIdeal
public import proofs.«01_k».proof.Proof.Gen.InProjBRefIdeal.Run
public import proofs.«01_k».proof.Proof.Attn
public import proofs.«01_k».proof.Proof.AttnIdeal
public import proofs.«01_k».proof.Proof.LnValue
public import proofs.«01_k».proof.Proof.OutValue
public import proofs.«01_k».proof.Proof.InAValue
public import proofs.«01_k».proof.Proof.InBValue
public import Idealize.ShloMosaic.Adequacy
public import Idealize.ShloMosaic.Lib.Claim
public import Idealize.ShloMosaic.Lib.StableHlo.Run
public import Idealize.ShloMosaic.Init

@[expose] public section

set_option maxRecDepth 16384

noncomputable section

namespace Cert.Proof

open Idealize.ShloMosaic Idealize.SL.Sem Cert.LayerNorm

/-- The reference of the layer normalisation runs and leaves its arguments. -/
theorem layerNormRef : Cert.quiescent_LayerNormRefIdeal := fun m ρ _ =>
  (θ_run _ _ _).mono (fun r h => ⟨fun c => (h c).2, sem_eq_zero_of_no_sems (by decide) r.2⟩) (Cert.LayerNormRefIdeal.Value.run m ρ)

/-- The reference of the output projection runs and leaves its arguments. -/
theorem outProjRef : Cert.quiescent_OutProjRefIdeal := fun m ρ _ =>
  (θ_run _ _ _).mono (fun r h => ⟨fun c => (h c).2, sem_eq_zero_of_no_sems (by decide) r.2⟩) (Cert.OutProjRefIdeal.Value.run m ρ)

/-- The reference of the first input projection runs and leaves its arguments. -/
theorem inProjARef : Cert.quiescent_InProjARefIdeal := fun m ρ _ =>
  (θ_run _ _ _).mono (fun r h => ⟨fun c => (h c).2.2.2.2, sem_eq_zero_of_no_sems (by decide) r.2⟩) (Cert.InProjARefIdeal.Value.run m ρ)

/-- The reference of the second input projection runs and leaves its arguments. -/
theorem inProjBRef : Cert.quiescent_InProjBRefIdeal := fun m ρ _ =>
  (θ_run _ _ _).mono (fun r h => ⟨fun c => (h c).2, sem_eq_zero_of_no_sems (by decide) r.2⟩) (Cert.InProjBRefIdeal.Value.run m ρ)

/-- The one literal that the ideal attention names is the reciprocal of the logarithm of 2. -/
theorem log2e : Cert.preserves_Kernel_KernelIdeal :=
  IdealRules.named_const.statement Cert.KernelIdeal.κ "log2e" .f32 0x3FB8AA3B#32 (((Real.log 2)⁻¹ : ℝ) : EReal) rfl

/-- The layer normalisation's result is the reference's. -/
theorem layerNorm : Cert.algebraic_LayerNormIdeal_LayerNormRefIdeal := by
  pair_intro
  · run_from Cert.LayerNormIdeal.Value.run_blocks m g
  · run_from Cert.LayerNormRefIdeal.Value.run m' g'
    rw [Cert.LayerNormIdeal.RefValue.final m c]
    rfl

/-- The output projection's result is the reference's. -/
theorem outProj : Cert.algebraic_OutProjIdeal_OutProjRefIdeal := by
  pair_intro
  · run_from Cert.OutProjIdeal.Value.run_blocks m g
  · run_from Cert.OutProjRefIdeal.Value.run m' g'
    rw [Cert.OutProjIdeal.RefValue.final m c]
    rfl

/-- The four results of the first input projection are the reference's. -/
theorem inProjA : Cert.algebraic_InProjAIdeal_InProjARefIdeal := by
  intro m g m' g' hpre hagree
  refine ⟨_, _, _, _, (θ_run _ _ _).mono (fun r h c => ⟨(h c).1.trans (Cert.InProjAIdeal.RefValue.final8 m c),
    (h c).2.1.trans (Cert.InProjAIdeal.RefValue.final9 m c), (h c).2.2.1.trans (Cert.InProjAIdeal.RefValue.final10 m c),
    (h c).2.2.2.1.trans (Cert.InProjAIdeal.RefValue.final11 m c), (h c).2.2.2.2⟩) (Cert.InProjAIdeal.Value.run_blocks m g), ?_⟩
  refine (θ_run _ _ _).mono (fun r h c => ?_) (Cert.InProjARefIdeal.Value.run m' g')
  obtain ⟨e0, e1, e2, e3, hargs⟩ := h c
  obtain ⟨a0, a1, a2, a3, a4⟩ := hagree c
  rw [a0, a1] at e0
  rw [a2] at e1
  rw [a3] at e2
  rw [a4] at e3
  exact ⟨e0, e1, e2, e3, hargs⟩

/-- The second input projection's result is the reference's. -/
theorem inProjB : Cert.algebraic_InProjBIdeal_InProjBRefIdeal := by
  pair_intro
  · run_from Cert.InProjBIdeal.RefValue.run_blocks m g
  · run_from Cert.InProjBRefIdeal.Value.run m' g'
    rfl

theorem claim : Cert.Claim := ⟨Cert.Kernel.Gen.facts, Cert.KernelIdeal.Gen.facts, Cert.LayerNorm.Gen.facts, Cert.LayerNormIdeal.Gen.facts, Cert.LayerNormRefIdeal.Gen.facts, Cert.OutProj.Gen.facts, Cert.OutProjIdeal.Gen.facts, Cert.OutProjRefIdeal.Gen.facts, Cert.InProjA.Gen.facts, Cert.InProjAIdeal.Gen.facts, Cert.InProjARefIdeal.Gen.facts, Cert.InProjB.Gen.facts, Cert.InProjBIdeal.Gen.facts, Cert.InProjBRefIdeal.Gen.facts,
  fun m ρ _ => Cert.Proof.Kernel.frame m ρ,
  fun m ρ _ => Cert.Proof.KernelIdeal.frame m ρ,
  fun m ρ _ => Cert.LayerNorm.Gen.frame m ρ,
  fun m ρ _ => Cert.LayerNormIdeal.Gen.frame m ρ,
  layerNormRef,
  fun m ρ _ => Cert.OutProj.Gen.frame m ρ,
  fun m ρ _ => Cert.OutProjIdeal.Gen.frame m ρ,
  outProjRef,
  fun m ρ _ => Cert.InProjA.Gen.frame m ρ,
  fun m ρ _ => Cert.InProjAIdeal.Gen.frame m ρ,
  inProjARef,
  fun m ρ _ => Cert.InProjB.Gen.frame m ρ,
  fun m ρ _ => Cert.InProjBIdeal.Gen.frame m ρ,
  inProjBRef,
  log2e, trivial, layerNorm, trivial, outProj, trivial, inProjA, trivial, inProjB⟩

end Cert.Proof

end
